-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16x512x2 : Shape := ⟨3, ![16, 512, 2]⟩
abbrev S16x512x53 : Shape := ⟨3, ![16, 512, 53]⟩
abbrev S512x53 : Shape := ⟨2, ![512, 53]⟩
abbrev S512 : Shape := ⟨1, ![512]⟩
abbrev S_ : Shape := ⟨0, ![]⟩

class Facts : Prop where
  bcast_S_S16x512x2 : S_.BroadcastsInDim S16x512x2 (![] : Fin 0 → Fin S16x512x2.rank)
  reducesTo_S16x512x2_S_d0_1_2 : S16x512x2.ReducesTo [0, 1, 2] S_
  h_S_ : 0 < S_.numel
  bcast_S_S16x512x53 : S_.BroadcastsInDim S16x512x53 (![] : Fin 0 → Fin S16x512x53.rank)
  reducesTo_S16x512x53_S_d0_1_2 : S16x512x53.ReducesTo [0, 1, 2] S_
  bcast_S_S512x53 : S_.BroadcastsInDim S512x53 (![] : Fin 0 → Fin S512x53.rank)
  reducesTo_S512x53_S_d0_1 : S512x53.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg3 : IVec S512 32) (main_v13 : IVec S_ 1) (main_v15 : IVec S512 1) (main_c_5 : IVec S_ 32) : IVec S_ 1 :=
  let main_v16 : IVec S512 32 := broadcastInDim S512 ![] bcast_S_S512 main_c_5
  let main_v17 : IVec S512 1 := cmpi .slt main_arg3 main_v16
  let main_v18 : IVec S512 1 := andi main_v15 main_v17
  let main_c_6 : IVec S_ 1 := constantI S_ 1 1#1
  let main_v19 : IVec S_ 1 := (fun x v => Host.reduce IntOp.andi x v reducesTo_S512_S_d0 h_S_) main_v18 main_c_6
  let main_v20 : IVec S_ 1 := andi main_v13 main_v19
  main_v20

def fn {F : FTy → Type} [FloatOps F] (main_arg0 : FVec F S16x512x2 .f32) (main_arg1 : FVec F S16x512x53 .f32) (main_arg2 : FVec F S512x53 .f32) (main_arg3 : IVec S512 32) : IVec S_ 1 :=
  let main_v0 : FVec F S16x512x2 .f32 := Host.absf main_arg0
  let main_cst : FVec F S_ .f32 := constant S_ .f32 0x7F800000#32
  let main_v1 : FVec F S16x512x2 .f32 := broadcastInDim S16x512x2 ![] bcast_S_S16x512x2 main_cst
  let main_v2 : IVec S16x512x2 1 := cmpf .olt main_v0 main_v1
  let main_c : IVec S_ 1 := constantI S_ 1 1#1
  let main_v3 : IVec S_ 1 := (fun x v => Host.reduce IntOp.andi x v reducesTo_S16x512x2_S_d0_1_2 h_S_) main_v2 main_c
  let main_v4 : FVec F S16x512x53 .f32 := Host.absf main_arg1
  let main_cst_0 : FVec F S_ .f32 := constant S_ .f32 0x7F800000#32
  let main_v5 : FVec F S16x512x53 .f32 := broadcastInDim S16x512x53 ![] bcast_S_S16x512x53 main_cst_0
  let main_v6 : IVec S16x512x53 1 := cmpf .olt main_v4 main_v5
  let main_c_1 : IVec S_ 1 := constantI S_ 1 1#1
  let main_v7 : IVec S_ 1 := (fun x v => Host.reduce IntOp.andi x v reducesTo_S16x512x53_S_d0_1_2 h_S_) main_v6 main_c_1
  let main_v8 : IVec S_ 1 := andi main_v3 main_v7
  let main_v9 : FVec F S512x53 .f32 := Host.absf main_arg2
  let main_cst_2 : FVec F S_ .f32 := constant S_ .f32 0x7F800000#32
  let main_v10 : FVec F S512x53 .f32 := broadcastInDim S512x53 ![] bcast_S_S512x53 main_cst_2
  let main_v11 : IVec S512x53 1 := cmpf .olt main_v9 main_v10
  let main_c_3 : IVec S_ 1 := constantI S_ 1 1#1
  let main_v12 : IVec S_ 1 := (fun x v => Host.reduce IntOp.andi x v reducesTo_S512x53_S_d0_1 h_S_) main_v11 main_c_3
  let main_v13 : IVec S_ 1 := andi main_v8 main_v12
  let main_c_4 : IVec S_ 32 := constantI S_ 32 0#32
  let main_v14 : IVec S512 32 := broadcastInDim S512 ![] bcast_S_S512 main_c_4
  let main_v15 : IVec S512 1 := cmpi .sge main_arg3 main_v14
  let main_c_5 : IVec S_ 32 := constantI S_ 32 2#32
  fn_part1 (F := F) main_arg3 main_v13 main_v15 main_c_5
-- ==== Kernel.lean ====
abbrev S16x512x2 : Shape := ⟨3, ![16, 512, 2]⟩
abbrev S16x512x53 : Shape := ⟨3, ![16, 512, 53]⟩
abbrev S512x53 : Shape := ⟨2, ![512, 53]⟩
abbrev S512 : Shape := ⟨1, ![512]⟩
abbrev S53x512 : Shape := ⟨2, ![53, 512]⟩
abbrev S1x512 : Shape := ⟨2, ![1, 512]⟩
abbrev S16x512x512 : Shape := ⟨3, ![16, 512, 512]⟩
abbrev S1x512x2 : Shape := ⟨3, ![1, 512, 2]⟩
abbrev S1x512x53 : Shape := ⟨3, ![1, 512, 53]⟩
abbrev S1x512x512 : Shape := ⟨3, ![1, 512, 512]⟩
abbrev S34x16x512 : Shape := ⟨3, ![34, 16, 512]⟩
abbrev S17x16x512 : Shape := ⟨3, ![17, 16, 512]⟩
abbrev S2x512 : Shape := ⟨2, ![2, 512]⟩
abbrev S17x512 : Shape := ⟨2, ![17, 512]⟩
abbrev S34x512 : Shape := ⟨2, ![34, 512]⟩
abbrev S16x512 : Shape := ⟨2, ![16, 512]⟩
abbrev S1x16x512 : Shape := ⟨3, ![1, 16, 512]⟩
abbrev S512x2 : Shape := ⟨2, ![512, 2]⟩
abbrev S512x34 : Shape := ⟨2, ![512, 34]⟩
abbrev S512x17 : Shape := ⟨2, ![512, 17]⟩
abbrev S512x512 : Shape := ⟨2, ![512, 512]⟩
abbrev S512x1 : Shape := ⟨2, ![512, 1]⟩

abbrev nBuf : Space → Nat
  | .hbm => 7
  | .vmem => 14
  | .smem => 0
  | _ => 0

abbrev bufTy : (tb : Table) → Fin (tcTables nBuf tb) → BufTy
  | .hbm, ⟨0, _⟩ => ⟨S16x512x2, .f32⟩
  | .hbm, ⟨1, _⟩ => ⟨S16x512x53, .f32⟩
  | .hbm, ⟨2, _⟩ => ⟨S512x53, .f32⟩
  | .hbm, ⟨3, _⟩ => ⟨S512, .i32⟩
  | .hbm, ⟨4, _⟩ => ⟨S53x512, .f32⟩
  | .hbm, ⟨5, _⟩ => ⟨S1x512, .i32⟩
  | .hbm, ⟨6, _⟩ => ⟨S16x512x512, .f32⟩
  | .local _ .vmem, ⟨0, _⟩ => ⟨S1x512x2, .f32⟩
  | .local _ .vmem, ⟨1, _⟩ => ⟨S1x512x2, .f32⟩
  | .local _ .vmem, ⟨2, _⟩ => ⟨S1x512x53, .f32⟩
  | .local _ .vmem, ⟨3, _⟩ => ⟨S1x512x53, .f32⟩
  | .local _ .vmem, ⟨4, _⟩ => ⟨S53x512, .f32⟩
  | .local _ .vmem, ⟨5, _⟩ => ⟨S1x512, .i32⟩
  | .local _ .vmem, ⟨6, _⟩ => ⟨S1x512x512, .f32⟩
  | .local _ .vmem, ⟨7, _⟩ => ⟨S1x512x512, .f32⟩
  | .local _ .vmem, ⟨8, _⟩ => ⟨S34x16x512, .bf16⟩
  | .local _ .vmem, ⟨9, _⟩ => ⟨S17x16x512, .bf16⟩
  | .local _ .vmem, ⟨10, _⟩ => ⟨S17x16x512, .bf16⟩
  | .local _ .vmem, ⟨11, _⟩ => ⟨S2x512, .f32⟩
  | .local _ .vmem, ⟨12, _⟩ => ⟨S17x512, .bf16⟩
  | .local _ .vmem, ⟨13, _⟩ => ⟨S1x512, .f32⟩
  | _, _ => ⟨S16x512x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x53 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S53x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16x512x2 : Shape := ⟨3, ![16, 512, 2]⟩
abbrev S16x512x53 : Shape := ⟨3, ![16, 512, 53]⟩
abbrev S512x53 : Shape := ⟨2, ![512, 53]⟩
abbrev S512 : Shape := ⟨1, ![512]⟩
abbrev S8192x2 : Shape := ⟨2, ![8192, 2]⟩
abbrev S_ : Shape := ⟨0, ![]⟩
abbrev S8192 : Shape := ⟨1, ![8192]⟩
abbrev S8192x1 : Shape := ⟨2, ![8192, 1]⟩
abbrev S8192x53 : Shape := ⟨2, ![8192, 53]⟩
abbrev S8192x34 : Shape := ⟨2, ![8192, 34]⟩
abbrev S8192x17 : Shape := ⟨2, ![8192, 17]⟩
abbrev S512x2 : Shape := ⟨2, ![512, 2]⟩
abbrev S512x34 : Shape := ⟨2, ![512, 34]⟩
abbrev S512x17 : Shape := ⟨2, ![512, 17]⟩
abbrev S1x512x1x2 : Shape := ⟨4, ![1, 512, 1, 2]⟩
abbrev S1x512x17x2 : Shape := ⟨4, ![1, 512, 17, 2]⟩
abbrev S1x8192x1x2 : Shape := ⟨4, ![1, 8192, 1, 2]⟩
abbrev S1x8192x17x2 : Shape := ⟨4, ![1, 8192, 17, 2]⟩
abbrev S512x1 : Shape := ⟨2, ![512, 1]⟩
abbrev S8192x512 : Shape := ⟨2, ![8192, 512]⟩
abbrev S512x17x2 : Shape := ⟨3, ![512, 17, 2]⟩
abbrev S8192x1x34 : Shape := ⟨3, ![8192, 1, 34]⟩
abbrev S1x512x34 : Shape := ⟨3, ![1, 512, 34]⟩
abbrev S8192x512x34 : Shape := ⟨3, ![8192, 512, 34]⟩
abbrev S8192x1x17 : Shape := ⟨3, ![8192, 1, 17]⟩
abbrev S1x512x17 : Shape := ⟨3, ![1, 512, 17]⟩
abbrev S8192x512x17 : Shape := ⟨3, ![8192, 512, 17]⟩
abbrev S8192x1x2 : Shape := ⟨3, ![8192, 1, 2]⟩
abbrev S1x512x2 : Shape := ⟨3, ![1, 512, 2]⟩
abbrev S8192x512x2 : Shape := ⟨3, ![8192, 512, 2]⟩
abbrev S16x512x512 : Shape := ⟨3, ![16, 512, 512]⟩

abbrev nBuf : Space → Nat
  | .hbm => 114
  | .vmem => 0
  | .smem => 0
  | _ => 0

abbrev bufTy : (tb : Table) → Fin (tcTables nBuf tb) → BufTy
  | .hbm, ⟨0, _⟩ => ⟨S16x512x2, .f32⟩
  | .hbm, ⟨1, _⟩ => ⟨S16x512x53, .f32⟩
  | .hbm, ⟨2, _⟩ => ⟨S512x53, .f32⟩
  | .hbm, ⟨3, _⟩ => ⟨S512, .i32⟩
  | .hbm, ⟨4, _⟩ => ⟨S8192x2, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x1, .f32⟩
  | .hbm, ⟨11, _⟩ => ⟨S8192x2, .f32⟩
  | .hbm, ⟨12, _⟩ => ⟨S8192x2, .f32⟩
  | .hbm, ⟨13, _⟩ => ⟨S8192x2, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x2, .f32⟩
  | .hbm, ⟨18, _⟩ => ⟨S8192x2, .f32⟩
  | .hbm, ⟨19, _⟩ => ⟨S8192x53, .f32⟩
  | .hbm, ⟨20, _⟩ => ⟨S8192x2, .f32⟩
  | .hbm, ⟨21, _⟩ => ⟨S8192x34, .f32⟩
  | .hbm, ⟨22, _⟩ => ⟨S8192x17, .f32⟩
  | .hbm, ⟨23, _⟩ => ⟨S512x2, .f32⟩
  | .hbm, ⟨24, _⟩ => ⟨S512x34, .f32⟩
  | .hbm, ⟨25, _⟩ => ⟨S512x17, .f32⟩
  | .hbm, ⟨26, _⟩ => ⟨S1x512x1x2, .f32⟩
  | .hbm, ⟨27, _⟩ => ⟨S1x512x17x2, .f32⟩
  | .hbm, ⟨28, _⟩ => ⟨S512x34, .f32⟩
  | .hbm, ⟨29, _⟩ => ⟨S512x34, .f32⟩
  | .hbm, ⟨30, _⟩ => ⟨S1x8192x1x2, .f32⟩
  | .hbm, ⟨31, _⟩ => ⟨S1x8192x17x2, .f32⟩
  | .hbm, ⟨32, _⟩ => ⟨S8192x34, .f32⟩
  | .hbm, ⟨33, _⟩ => ⟨S8192x34, .f32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S_, .i32⟩
  | .hbm, ⟨38, _⟩ => ⟨S512, .i32⟩
  | .hbm, ⟨39, _⟩ => ⟨S512, .i32⟩
  | .hbm, ⟨40, _⟩ => ⟨S512, .i32⟩
  | .hbm, ⟨41, _⟩ => ⟨S512x1, .i32⟩
  | .hbm, ⟨42, _⟩ => ⟨S8192x512, .f32⟩
  | .hbm, ⟨43, _⟩ => ⟨S8192x512, .f32⟩
  | .hbm, ⟨44, _⟩ => ⟨S512x17x2, .f32⟩
  | .hbm, ⟨45, _⟩ => ⟨S512x34, .f32⟩
  | .hbm, ⟨46, _⟩ => ⟨S8192x1x34, .f32⟩
  | .hbm, ⟨47, _⟩ => ⟨S1x512x34, .f32⟩
  | .hbm, ⟨48, _⟩ => ⟨S8192x512x34, .f32⟩
  | .hbm, ⟨49, _⟩ => ⟨S8192x512x34, .f32⟩
  | .hbm, ⟨50, _⟩ => ⟨S8192x512x34, .f32⟩
  | .hbm, ⟨51, _⟩ => ⟨S512x34, .f32⟩
  | .hbm, ⟨52, _⟩ => ⟨S1x512x34, .f32⟩
  | .hbm, ⟨53, _⟩ => ⟨S8192x512x34, .f32⟩
  | .hbm, ⟨54, _⟩ => ⟨S8192x512x34, .f32⟩
  | .hbm, ⟨55, _⟩ => ⟨S8192x512x34, .f32⟩
  | .hbm, ⟨56, _⟩ => ⟨S_, .f32⟩
  | .hbm, ⟨57, _⟩ => ⟨S8192x512, .f32⟩
  | .hbm, ⟨58, _⟩ => ⟨S8192x1x34, .f32⟩
  | .hbm, ⟨59, _⟩ => ⟨S1x512x34, .f32⟩
  | .hbm, ⟨60, _⟩ => ⟨S8192x512x34, .f32⟩
  | .hbm, ⟨61, _⟩ => ⟨S8192x512x34, .f32⟩
  | .hbm, ⟨62, _⟩ => ⟨S8192x512x34, .f32⟩
  | .hbm, ⟨63, _⟩ => ⟨S512x34, .f32⟩
  | .hbm, ⟨64, _⟩ => ⟨S1x512x34, .f32⟩
  | .hbm, ⟨65, _⟩ => ⟨S8192x512x34, .f32⟩
  | .hbm, ⟨66, _⟩ => ⟨S8192x512x34, .f32⟩
  | .hbm, ⟨67, _⟩ => ⟨S8192x512x34, .f32⟩
  | .hbm, ⟨68, _⟩ => ⟨S_, .f32⟩
  | .hbm, ⟨69, _⟩ => ⟨S8192x512, .f32⟩
  | .hbm, ⟨70, _⟩ => ⟨S8192x1x17, .f32⟩
  | .hbm, ⟨71, _⟩ => ⟨S1x512x17, .f32⟩
  | .hbm, ⟨72, _⟩ => ⟨S8192x512x17, .f32⟩
  | .hbm, ⟨73, _⟩ => ⟨S8192x512x17, .f32⟩
  | .hbm, ⟨74, _⟩ => ⟨S8192x512x17, .f32⟩
  | .hbm, ⟨75, _⟩ => ⟨S8192x512x17, .f32⟩
  | .hbm, ⟨76, _⟩ => ⟨S_, .f32⟩
  | .hbm, ⟨77, _⟩ => ⟨S8192x512, .f32⟩
  | .hbm, ⟨78, _⟩ => ⟨S_, .f32⟩
  | .hbm, ⟨79, _⟩ => ⟨S8192x512, .f32⟩
  | .hbm, ⟨80, _⟩ => ⟨S8192x512, .f32⟩
  | .hbm, ⟨81, _⟩ => ⟨S8192x512, .f32⟩
  | .hbm, ⟨82, _⟩ => ⟨S8192x1x2, .f32⟩
  | .hbm, ⟨83, _⟩ => ⟨S1x512x2, .f32⟩
  | .hbm, ⟨84, _⟩ => ⟨S8192x512x2, .f32⟩
  | .hbm, ⟨85, _⟩ => ⟨S8192x512x2, .f32⟩
  | .hbm, ⟨86, _⟩ => ⟨S8192x512x2, .f32⟩
  | .hbm, ⟨87, _⟩ => ⟨S8192x512x2, .f32⟩
  | .hbm, ⟨88, _⟩ => ⟨S_, .f32⟩
  | .hbm, ⟨89, _⟩ => ⟨S8192x512, .f32⟩
  | .hbm, ⟨90, _⟩ => ⟨S_, .f32⟩
  | .hbm, ⟨91, _⟩ => ⟨S8192x512, .f32⟩
  | .hbm, ⟨92, _⟩ => ⟨S8192x512, .f32⟩
  | .hbm, ⟨93, _⟩ => ⟨S8192x512, .f32⟩
  | .hbm, ⟨94, _⟩ => ⟨S_, .f32⟩
  | .hbm, ⟨95, _⟩ => ⟨S8192x512, .f32⟩
  | .hbm, ⟨96, _⟩ => ⟨S8192x512, .f32⟩
  | .hbm, ⟨97, _⟩ => ⟨S_, .f32⟩
  | .hbm, ⟨98, _⟩ => ⟨S8192x512, .f32⟩
  | .hbm, ⟨99, _⟩ => ⟨S8192x512, .f32⟩
  | .hbm, ⟨100, _⟩ => ⟨S8192x512, .f32⟩
  | .hbm, ⟨101, _⟩ => ⟨S_, .f32⟩
  | .hbm, ⟨102, _⟩ => ⟨S8192x512, .f32⟩
  | .hbm, ⟨103, _⟩ => ⟨S8192x512, .f32⟩
  | .hbm, ⟨104, _⟩ => ⟨S8192x512, .f32⟩
  | .hbm, ⟨105, _⟩ => ⟨S_, .f32⟩
  | .hbm, ⟨106, _⟩ => ⟨S8192x512, .f32⟩
  | .hbm, ⟨107, _⟩ => ⟨S8192x512, .f32⟩
  | .hbm, ⟨108, _⟩ => ⟨S8192x512, .f32⟩
  | .hbm, ⟨109, _⟩ => ⟨S_, .f32⟩
  | .hbm, ⟨110, _⟩ => ⟨S8192x512, .f32⟩
  | .hbm, ⟨111, _⟩ => ⟨S8192x512, .f32⟩
  | .hbm, ⟨112, _⟩ => ⟨S8192x512, .f32⟩
  | .hbm, ⟨113, _⟩ => ⟨S16x512x512, .f32⟩
  | _, _ => ⟨S16x512x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c : Ref sig .tc := ⟨.hbm, 34, rfl⟩
abbrev main_v27 : Ref sig .tc := ⟨.hbm, 35, rfl⟩
abbrev main_v28 : Ref sig .tc := ⟨.hbm, 36, rfl⟩
abbrev main_c_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_3 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_4 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_cst_5 : Ref sig .tc := ⟨.hbm, 76, rfl⟩
abbrev main_v65 : Ref sig .tc := ⟨.hbm, 77, rfl⟩
abbrev main_cst_6 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_7 : Ref sig .tc := ⟨.hbm, 88, rfl⟩
abbrev main_v75 : Ref sig .tc := ⟨.hbm, 89, rfl⟩
abbrev main_cst_8 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_cst_9 : Ref sig .tc := ⟨.hbm, 94, rfl⟩
abbrev main_v79 : Ref sig .tc := ⟨.hbm, 95, rfl⟩
abbrev main_v80 : Ref sig .tc := ⟨.hbm, 96, rfl⟩
abbrev main_cst_10 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_11 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_cst_12 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_13 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩

abbrev nD : Nat := 1
abbrev τ : Topo := Topo.v7x

variable {F : FTy → Type} [FloatOps F]
-- ==== Proof.Block.lean ====
/- What one grid point stores, as arrays: the printed payloads of the block, put together, are a short expression over one
   repeated term per joint. -/
module

public import proofs.«01_k».proof.Proof.Gen.KernelIdeal.Skeleton
public import Idealize.ShloMosaic.Lib.Pointwise

@[expose] public section

set_option maxRecDepth 16384

noncomputable section

namespace Cert.KernelIdeal.Block

open Idealize.ShloMosaic Idealize.SL.Sem Cert.KernelIdeal.Gen

variable {F : FTy → Type} [FloatOps F]

/-- A slab of sixteen equal rows, stacked thirty-two times to the height of a block. -/
def tile (v : Vec F S1x16x512 .bf16) : FVec F S512x512 .bf16 :=
  concatenate S512x512 0 (List.replicate 32 ⟨S16x512, shapeCast S16x512 v shapeCasts_S1x16x512_S16x512⟩)
    concatenates_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S512x512_d0

/-- A column of the predicted offsets can be cut out at each of the thirty-four places. -/
theorem slices_col (d : Fin 34) : S512x34.Slices ![0, d.val] S512x1 := by
  refine ⟨rfl, fun a => ?_⟩
  have hd := d.isLt
  fin_cases a <;> simp [S512x34, S512x1] <;> omega

/-- One predicted coordinate less one target coordinate, over the block. -/
def off (z : FVec F S512x34 .bf16) (Z : Fin 34 → Vec F S1x16x512 .bf16) (d : Fin 34) : FVec F S512x512 .bf16 :=
  subf (broadcastTo S512x512 (extractStridedSlice S512x1 ![0, d.val] z (slices_col d)) broadcasts_S512x1_S512x512) (tile (Z d))

/-- What joint `j` adds to the cost: the offset distance and the absolute distance, each under its weight. -/
def joint (z : FVec F S512x34 .bf16) (cx cy : FVec F S512x512 .bf16) (Z : Fin 34 → Vec F S1x16x512 .bf16)
    (A B : Fin 17 → Vec F S1x16x512 .bf16) (j : Fin 17) : FVec F S512x512 .bf16 :=
  addf (mulf (addf (absf (off z Z ⟨2 * j.val, by omega⟩)) (absf (off z Z ⟨2 * j.val + 1, by omega⟩))) (tile (A j)))
    (mulf (addf (absf (addf (off z Z ⟨2 * j.val, by omega⟩) cx)) (absf (addf (off z Z ⟨2 * j.val + 1, by omega⟩) cy))) (tile (B j)))

/-- Four neighbouring joints, summed from the left. -/
def four (t : Fin 17 → FVec F S512x512 .bf16) (a b c d : Fin 17) : FVec F S512x512 .f32 :=
  extf .f32 (addf (addf (addf (t a) (t b)) (t c)) (t d)) bitsLt_bf16_f32

/-- The printed dataflow of a block, payload after payload, over what it loads: the logits, the predictions, the target
    centres, the target visibilities, the class mask, and the three stacks of slabs. -/
def printed (v5 : Vec F S1x512x2 .f32) (v7 : Vec F S1x512x53 .f32) (v14 : Vec F S2x512 .f32) (v15 : Vec F S17x512 .bf16)
    (v37 : Vec F S1x512 .f32) (Z : Fin 34 → Vec F S1x16x512 .bf16) (A B : Fin 17 → Vec F S1x16x512 .bf16) : FVec F S512x512 .f32 :=
  let v9 := k0_pay81 v7
  let v11 := k0_pay82 v7
  let v56 := k0_pay98 v9 v14
  let v57 := k0_pay99 v9 v14
  let v116 := k0_pay105 v11 v56 v57 (k0_pay100 (B 0)) (k0_pay103 v11 (A 0) (Z 0) (Z 1)) (k0_pay104 v9 v11 v14 (Z 0) (Z 1)) (A 1) (B 1) (Z 2) (Z 3)
  let v146 := k0_pay109 v11 v56 v57 v116 (k0_pay106 (A 2)) (k0_pay107 (B 2)) (k0_pay108 v11) (Z 4) (Z 5)
  let v187 := k0_pay118 (k0_pay95 (k0_pay93 v5) (k0_pay94 v5) v37) (k0_pay96 v9 v14) (k0_pay97 v9 v14) v146 (k0_pay110 (A 3)) (k0_pay111 (B 3))
    (k0_pay114 v11 v56 (Z 6)) (k0_pay115 v11 v57 (Z 7)) (k0_pay116 v11 (Z 6)) (k0_pay117 v11 (Z 7))
  let v246 := k0_pay124 v11 v56 v57 (k0_pay119 (B 4)) (k0_pay122 v11 (A 4) (Z 8) (Z 9)) (k0_pay123 v11 v56 v57 (Z 8) (Z 9)) (A 5) (B 5) (Z 10) (Z 11)
  let v276 := k0_pay128 v11 v56 v57 v246 (k0_pay125 (A 6)) (k0_pay126 (B 6)) (k0_pay127 v11) (Z 12) (Z 13)
  let v320 := k0_pay137 (k0_pay84 v7 v15) (k0_pay85 v7) (k0_pay86 v15) v187 v276 (k0_pay129 (A 7)) (k0_pay130 (B 7))
    (k0_pay133 v11 v56 (Z 14)) (k0_pay134 v11 v57 (Z 15)) (k0_pay135 v11 (Z 14)) (k0_pay136 v11 (Z 15))
  let v379 := k0_pay145 v11 v56 v57 (k0_pay138 (A 8)) (k0_pay139 (B 8)) (k0_pay142 v11 v56 (Z 16)) (k0_pay143 v11 v57 (Z 17))
    (k0_pay144 v11 (Z 16) (Z 17)) (A 9) (B 9) (Z 18) (Z 19)
  let v409 := k0_pay148 v11 v56 v57 v379 (k0_pay146 (A 10)) (k0_pay147 (B 10)) (Z 20) (Z 21)
  let v441 := k0_pay153 v56 v57 v320 v409 (k0_pay149 (A 11)) (k0_pay150 (B 11)) (k0_pay151 v11 (Z 22)) (k0_pay152 v11 (Z 23))
  let v470 := k0_pay154 v11 v56 v57 (A 12) (B 12) (Z 24) (Z 25)
  let v500 := k0_pay156 v11 v56 v57 v470 (k0_pay155 (A 13)) (B 13) (Z 26) (Z 27)
  let v530 := k0_pay161 v56 v57 v500 (k0_pay157 (A 14)) (k0_pay158 (B 14)) (k0_pay159 v11 (Z 28)) (k0_pay160 v11) (Z 29)
  let v559 := k0_pay162 v11 v56 v57 (A 15) (B 15) (Z 30) (Z 31)
  k0_pay163 v11 v56 v57 v441 v530 v559 (A 16) (B 16) (Z 32) (Z 33)

/-- The class cost of a block. -/
def clsCost (v5 : Vec F S1x512x2 .f32) (v37 : Vec F S1x512 .f32) : FVec F S512x512 .f32 := k0_pay95 (k0_pay93 v5) (k0_pay94 v5) v37

/-- The weighted distance of the centres over a block. -/
def ctrCost (x y : FVec F S512x512 .f32) : FVec F S512x512 .f32 :=
  mulf (broadcast S512x512 (Scalar.ofBits .f32 0x3F000000#32))
    (sqrt (maximumf (addf (mulf x x) (mulf y y)) (broadcast S512x512 (Scalar.ofBits .f32 0x2B8CBCCC#32))))

/-- The weighted distance of the visibilities over a block, from the two squared norms and the product. -/
def visCost (d : FVec F S512x512 .f32) (n : FVec F S512x1 .f32) (t : FVec F S1x512 .f32) : FVec F S512x512 .f32 :=
  mulf (broadcast S512x512 (Scalar.ofBits .f32 0x3E4CCCCD#32))
    (sqrt (maximumf (subf (addf (broadcastTo S512x512 n broadcasts_S512x1_S512x512) (broadcastTo S512x512 t broadcasts_S1x512_S512x512))
      (mulf (broadcast S512x512 (Scalar.ofBits .f32 0x40000000#32)) d)) (broadcast S512x512 (Scalar.ofBits .f32 0x2B8CBCCC#32))))

/-- The seventeen joint terms of a block. -/
def joints (v7 : Vec F S1x512x53 .f32) (v14 : Vec F S2x512 .f32) (Z : Fin 34 → Vec F S1x16x512 .bf16)
    (A B : Fin 17 → Vec F S1x16x512 .bf16) : Fin 17 → FVec F S512x512 .bf16 :=
  joint (k0_pay82 v7) (k0_pay98 (k0_pay81 v7) v14) (k0_pay99 (k0_pay81 v7) v14) Z A B

/-- A block put together: class cost, then the joints by fours with the two distances between them. -/
theorem printed_eq (v5 : Vec F S1x512x2 .f32) (v7 : Vec F S1x512x53 .f32) (v14 : Vec F S2x512 .f32) (v15 : Vec F S17x512 .bf16)
    (v37 : Vec F S1x512 .f32) (Z : Fin 34 → Vec F S1x16x512 .bf16) (A B : Fin 17 → Vec F S1x16x512 .bf16) :
    printed v5 v7 v14 v15 v37 Z A B =
      addf (addf (addf (addf (addf (addf (addf (clsCost v5 v37) (four (joints v7 v14 Z A B) 0 1 2 3))
        (ctrCost (k0_pay96 (k0_pay81 v7) v14) (k0_pay97 (k0_pay81 v7) v14)))
        (four (joints v7 v14 Z A B) 4 5 6 7))
        (visCost (k0_pay84 v7 v15) (k0_pay85 v7) (k0_pay86 v15)))
        (four (joints v7 v14 Z A B) 8 9 10 11))
        (four (joints v7 v14 Z A B) 12 13 14 15))
        (extf .f32 (joints v7 v14 Z A B 16) bitsLt_bf16_f32) := rfl

end Cert.KernelIdeal.Block
-- ==== Proof.Scratch.lean ====
/- The scratch buffers: the arrays the first grid point leaves in them, and what a grid point stores over them. -/
module

public import proofs.«01_k».proof.Proof.Gen.KernelIdeal.Value
public import proofs.«01_k».proof.Proof.Block
public import Idealize.ShloMosaic.Lib.Pipeline.ReadBack
public import Idealize.ShloMosaic.Lib.Pipeline.ValueKit.Acc
public import Idealize.ShloMosaic.Lib.Pipeline.ValueKit.Tiles

@[expose] public section

set_option maxRecDepth 16384

noncomputable section

namespace Cert.KernelIdeal.Block

open Idealize.ShloMosaic Idealize.SL.Sem Cert.KernelIdeal.Gen

variable {F : FTy → Type} [FloatOps F]

/-- The place of a slab lies inside the stack of thirty-four. -/
theorem in_stack34 (d : Fin 34) : ∀ a, (![d.val, 0, 0] : Fin 3 → Nat) a + S1x16x512.size a ≤ S34x16x512.size a := by
  have hd := d.isLt
  intro a
  fin_cases a <;> simp [S34x16x512, S1x16x512] <;> omega

/-- The place of a slab lies inside the stack of seventeen. -/
theorem in_stack17 (j : Fin 17) : ∀ a, (![j.val, 0, 0] : Fin 3 → Nat) a + S1x16x512.size a ≤ S17x16x512.size a := by
  have hd := j.isLt
  intro a
  fin_cases a <;> simp [S17x16x512, S1x16x512] <;> omega

/-- One slab of the stack of thirty-four. -/
def slab34 (X : Vec F S34x16x512 .bf16) (d : Fin 34) : Vec F S1x16x512 .bf16 :=
  View.ld X (Rect.unit ![d.val, 0, 0] S1x16x512.size (in_stack34 d))

/-- One slab of a stack of seventeen. -/
def slab17 (X : Vec F S17x16x512 .bf16) (j : Fin 17) : Vec F S1x16x512 .bf16 :=
  View.ld X (Rect.unit ![j.val, 0, 0] S1x16x512.size (in_stack17 j))

/-- The six scratch buffers' contents. -/
abbrev Six (F : FTy → Type) : Type :=
  Vec F S34x16x512 .bf16 × Vec F S17x16x512 .bf16 × Vec F S17x16x512 .bf16 × Vec F S2x512 .f32 × Vec F S17x512 .bf16 × Vec F S1x512 .f32

/-- What a grid point stores over its two blocks and the scratch buffers. -/
def stored (l : Vec F S1x512x2 .f32) (p : Vec F S1x512x53 .f32) (X : Six F) : Vec F S1x512x512 .f32 :=
  k0_pay1 (printed l p X.2.2.2.1 X.2.2.2.2.1 X.2.2.2.2.2 (slab34 X.1) (slab17 X.2.1) (slab17 X.2.2.1))

/-- Sixteen copies of row `d` of an array of thirty-four rows. -/
def rows34 (M : FVec F S34x512 .bf16) (d : Fin 34) (h : S34x512.Slices ![d.val, 0] S1x512) : Vec F S1x16x512 .bf16 :=
  shapeCast S1x16x512 (broadcastTo S16x512 (shapeCast S1x512 (extractStridedSlice S1x512 ![d.val, 0] M h) shapeCasts_S1x512_S1x512)
    broadcasts_S1x512_S16x512) shapeCasts_S16x512_S1x16x512

/-- Sixteen copies of row `j` of an array of seventeen rows. -/
def rows17 (M : FVec F S17x512 .bf16) (j : Fin 17) (h : S17x512.Slices ![j.val, 0] S1x512) : Vec F S1x16x512 .bf16 :=
  shapeCast S1x16x512 (broadcastTo S16x512 (shapeCast S1x512 (extractStridedSlice S1x512 ![j.val, 0] M h) shapeCasts_S1x512_S1x512)
    broadcasts_S1x512_S16x512) shapeCasts_S16x512_S1x16x512

/-- Each of the thirty-four rows can be cut out. -/
theorem slices_row34 (d : Fin 34) : S34x512.Slices ![d.val, 0] S1x512 := by
  refine ⟨rfl, fun a => ?_⟩
  have hd := d.isLt
  fin_cases a <;> simp [S34x512, S1x512] <;> omega

/-- Each of the seventeen rows can be cut out. -/
theorem slices_row17 (j : Fin 17) : S17x512.Slices ![j.val, 0] S1x512 := by
  refine ⟨rfl, fun a => ?_⟩
  have hd := j.isLt
  fin_cases a <;> simp [S17x512, S1x512] <;> omega

/-- The stack of thirty-four, written slab after slab (the last written first). -/
def pieces34 (M : FVec F S34x512 .bf16) : List (View.Piece (Elt F) S34x16x512 .bf16) :=
  List.ofFn fun k : Fin 34 => ⟨Rect.unit ![k.rev.val, 0, 0] S1x16x512.size (in_stack34 k.rev), rows34 M k.rev (slices_row34 _)⟩

/-- A stack of seventeen, written slab after slab (the last written first). -/
def pieces17 (M : FVec F S17x512 .bf16) : List (View.Piece (Elt F) S17x16x512 .bf16) :=
  List.ofFn fun k : Fin 17 => ⟨Rect.unit ![k.rev.val, 0, 0] S1x16x512.size (in_stack17 k.rev), rows17 M k.rev (slices_row17 _)⟩

/-- What the first grid point leaves in the scratch buffers, over the targets' and the ids' blocks. -/
def first (x2 : Vec F S53x512 .f32) (x3 : Vec F S1x512 .i32) : Six F :=
  (View.canon (pieces34 (k0_pay4 x2)), View.canon (pieces17 (k0_pay7 x2)), View.canon (pieces17 (k0_pay8 x2)),
    k0_pay3 x2, k0_pay6 x2, k0_pay78 (k0_pay77 x3))

variable (m : (ℓ : Loc nD τ sig) → Buf (Elt F) ℓ)

/-- Off the first grid point: the block stored, over the scratch buffers as the point before left them. -/
theorem out_later (c : Dev nD) (t : Fin cfg0.N) (h0 : ¬ t.val % 16 = 0) :
    (outsAt0 m c t.val t.isLt).1 = stored (iblk m c 0 t) (iblk m c 1 t)
      (outsAt0 m c (t.val - 1) (Nat.lt_of_le_of_lt (Nat.sub_le _ _) t.isLt)).2 := by
  rw [outsAt0_B m c t h0]
  generalize outsAt0 m c (t.val - 1) (Nat.lt_of_le_of_lt (Nat.sub_le _ _) t.isLt) = X
  frame_out
  simp only [read_unread_whole]
  rfl

/-- Off the first grid point the scratch buffers stay as they were. -/
theorem six_later (c : Dev nD) (t : Fin cfg0.N) (h0 : ¬ t.val % 16 = 0) :
    (outsAt0 m c t.val t.isLt).2 = (outsAt0 m c (t.val - 1) (Nat.lt_of_le_of_lt (Nat.sub_le _ _) t.isLt)).2 := by
  rw [outsAt0_B m c t h0]
  rfl

/-- At the first grid point the scratch buffers are filled. -/
theorem six_first (c : Dev nD) (t : Fin cfg0.N) (h0 : t.val % 16 = 0) :
    (outsAt0 m c t.val t.isLt).2 = first (iblk m c 2 t) (iblk m c 3 t) := by
  rw [outsAt0_A m c t h0]
  frame_open
  simp (disch := decide) only [View.read_writes_junk_eq_canon, View.canon_cons_unit_lit',
        View.ld_unit_lit', View.readAt_eq_ld, Memref.IsWhole.read_unread]
  rfl

/-- The block stored at the first grid point: each load reads what the same point stored there before. -/
theorem out_first_printed (c : Dev nD) (t : Fin cfg0.N) (h0 : t.val % 16 = 0) :
    (outsAt0 m c t.val t.isLt).1 = k0_pay1 (printed (iblk m c 0 t) (iblk m c 1 t) (k0_pay3 (iblk m c 2 t)) (k0_pay6 (iblk m c 2 t))
      (k0_pay78 (k0_pay77 (iblk m c 3 t))) (fun d => rows34 (k0_pay4 (iblk m c 2 t)) d (slices_row34 d))
      (fun j => rows17 (k0_pay7 (iblk m c 2 t)) j (slices_row17 j)) (fun j => rows17 (k0_pay8 (iblk m c 2 t)) j (slices_row17 j))) := by
  rw [outsAt0_A m c t h0]
  frame_open
  simp (disch := decide) only [↓ View.readCov_skip, ↓ View.readCov_cons_toLoadRect, ↓ View.readCov_fill, View.read_writes_junk_eq_canon, View.canon_cons_unit_lit',
        View.ld_unit_lit', View.readAt_eq_ld, Memref.IsWhole.read_unread]
  rfl

/-- Pieces at pairwise disjoint places, written last to first: a load at one of the places reads its piece. -/
theorem ld_pieces {Val : EltTy → Type} [∀ e, Nonempty (Val e)] {S : Shape} {e : EltTy} {N : ℕ} (R : Fin N → Rect S)
    (P : (k : Fin N) → (R k).shape.Idx → Val e) (hd : ∀ k k' y, y ∈ (R k).set → y ∈ (R k').set → k = k') (n : Fin N) :
    View.ld (View.canon (List.ofFn fun k : Fin N => (⟨R k.rev, P k.rev⟩ : View.Piece Val S e))) (R n) = P n := by
  funext x
  refine View.canon_eq_of_allAt _ _ _ ⟨⟨R n, P n⟩, List.mem_ofFn.mpr ⟨n.rev, by rw [Fin.rev_rev]⟩, (R n).idx_mem x⟩ fun p hp => ?_
  obtain ⟨k, rfl⟩ := List.mem_ofFn.mp hp
  generalize k.rev = k'
  intro x' hx'
  have hx'' : (R k').emb x' = (R n).emb x := hx'
  obtain rfl : k' = n := hd _ _ _ ((R k').idx_mem x') (by
    rw [show (R k').idx x' = (R n).idx x from hx'']; exact (R n).idx_mem x)
  rw [(R k').emb.injective hx'']

/-- The place of a slab in the stack of thirty-four. -/
abbrev place34 (d : Fin 34) : Rect S34x16x512 := Rect.unit ![d.val, 0, 0] S1x16x512.size (in_stack34 d)

/-- The place of a slab in a stack of seventeen. -/
abbrev place17 (j : Fin 17) : Rect S17x16x512 := Rect.unit ![j.val, 0, 0] S1x16x512.size (in_stack17 j)

/-- Two slabs of the stack of thirty-four that share a place are one. -/
theorem place34_inj (k k' : Fin 34) (y : S34x16x512.Idx) (hk : y ∈ (place34 k).set) (hk' : y ∈ (place34 k').set) : k = k' := by
  have a := Rect.mem_set_unit.mp hk 0
  have b := Rect.mem_set_unit.mp hk' 0
  have a1 : k.val ≤ (y 0).val := a.1
  have a2 : (y 0).val < k.val + 1 := a.2
  have b1 : k'.val ≤ (y 0).val := b.1
  have b2 : (y 0).val < k'.val + 1 := b.2
  generalize (y 0).val = n at *
  exact Fin.ext (by omega)

/-- Two slabs of a stack of seventeen that share a place are one. -/
theorem place17_inj (k k' : Fin 17) (y : S17x16x512.Idx) (hk : y ∈ (place17 k).set) (hk' : y ∈ (place17 k').set) : k = k' := by
  have a := Rect.mem_set_unit.mp hk 0
  have b := Rect.mem_set_unit.mp hk' 0
  have a1 : k.val ≤ (y 0).val := a.1
  have a2 : (y 0).val < k.val + 1 := a.2
  have b1 : k'.val ≤ (y 0).val := b.1
  have b2 : (y 0).val < k'.val + 1 := b.2
  generalize (y 0).val = n at *
  exact Fin.ext (by omega)

/-- A slab of the filled stack of thirty-four is its row sixteen times. -/
theorem slab34_filled (M : FVec F S34x512 .bf16) (d : Fin 34) : slab34 (View.canon (pieces34 M)) d = rows34 M d (slices_row34 d) := by
  unfold slab34 pieces34
  exact ld_pieces place34 (fun d => rows34 M d (slices_row34 d)) place34_inj d

/-- A slab of a filled stack of seventeen is its row sixteen times. -/
theorem slab17_filled (M : FVec F S17x512 .bf16) (j : Fin 17) : slab17 (View.canon (pieces17 M)) j = rows17 M j (slices_row17 j) := by
  unfold slab17 pieces17
  exact ld_pieces place17 (fun j => rows17 M j (slices_row17 j)) place17_inj j

/-- The block stored at the first grid point is the stored block over the scratch buffers it fills. -/
theorem out_first (c : Dev nD) (t : Fin cfg0.N) (h0 : t.val % 16 = 0) :
    (outsAt0 m c t.val t.isLt).1 = stored (iblk m c 0 t) (iblk m c 1 t) (first (iblk m c 2 t) (iblk m c 3 t)) := by
  rw [out_first_printed m c t h0]
  unfold stored first
  rw [funext (slab34_filled (k0_pay4 (iblk m c 2 t))), funext (slab17_filled (k0_pay7 (iblk m c 2 t))),
    funext (slab17_filled (k0_pay8 (iblk m c 2 t)))]

/-- The grid's first point. -/
def origin : Fin cfg0.N := ⟨0, lt_of_lt_of_eq (by decide) N_0.symm⟩

/-- After every grid point the scratch buffers hold what the first one left. -/
theorem six_all (c : Dev nD) : ∀ (n : ℕ) (h : n < cfg0.N),
    (outsAt0 m c n h).2 = first (iblk m c 2 origin) (iblk m c 3 origin)
  | 0, h => six_first m c ⟨0, h⟩ rfl
  | n + 1, h => by
    have hN : n + 1 < 16 := lt_of_lt_of_eq h N_0
    exact (six_later m c ⟨n + 1, h⟩ (by show ¬ (n + 1) % 16 = 0; omega)).trans (six_all c n (Nat.lt_of_succ_lt h))

/-- At every grid point: the block stored, over the scratch buffers as the first point filled them. -/
theorem out_all (c : Dev nD) (t : Fin cfg0.N) :
    (outsAt0 m c t.val t.isLt).1 = stored (iblk m c 0 t) (iblk m c 1 t) (first (iblk m c 2 origin) (iblk m c 3 origin)) := by
  by_cases h0 : t.val % 16 = 0
  · have hN : t.val < 16 := lt_of_lt_of_eq t.isLt N_0
    obtain rfl : t = origin := Fin.ext (by show t.val = 0; omega)
    exact out_first m c origin h0
  · rw [out_later m c t h0, six_all]

end Cert.KernelIdeal.Block
-- ==== Proof.Spec.lean ====
/- The matching cost of one prediction and one target over the reals: what both programs compute. -/
module

public import Idealize.ShloMosaic.PureOps.Ideal
public import Idealize.ShloMosaic.PureOps.Ideal.Laws
public import Idealize.ShloMosaic.Lib.IdealHost

@[expose] public section

noncomputable section

namespace Cert.Spec

open Idealize.ShloMosaic

/-- The probability of a class: its share of the two exponentials. -/
def prob (l : Fin 2 → ℝ) (i : Fin 2) : ℝ :=
  Real.exp (l i - max (l 0) (l 1)) / (Real.exp (l 0 - max (l 0) (l 1)) + Real.exp (l 1 - max (l 0) (l 1)))

/-- The class cost, `s` being 1 at a target of class 0 and 0 at one of class 1. -/
def cls (l : Fin 2 → ℝ) (s : ℝ) : ℝ := -(prob l 1 + (prob l 0 - prob l 1) * s)

/-- The difference of offset coordinate `d`. -/
def diff (p t : Fin 53 → ℝ) (d : Fin 34) : ℝ := p ⟨2 + d.val, by omega⟩ - t ⟨2 + d.val, by omega⟩

/-- The visibility of joint `j`. -/
def vis (t : Fin 53 → ℝ) (j : Fin 17) : ℝ := t ⟨36 + j.val, by omega⟩

/-- What joint `j` adds: the distance of the offsets under half the visibility and of the positions under four times it. -/
def joint (p t : Fin 53 → ℝ) (j : Fin 17) : ℝ :=
  (|diff p t ⟨2 * j.val, by omega⟩| + |diff p t ⟨2 * j.val + 1, by omega⟩|) * (1 / 2 * |vis t j|)
    + (|diff p t ⟨2 * j.val, by omega⟩ + (p 0 - t 0)| + |diff p t ⟨2 * j.val + 1, by omega⟩ + (p 1 - t 1)|) * (4 * |vis t j|)

/-- A weighted root of a squared distance, clipped from below as both programs clip it. -/
def root (w : BitVec 32) (n : ℝ) : EReal := Ideal.ofBits .f32 w * Ideal.sqrt (max (n : EReal) (Ideal.ofBits .f32 0x2B8CBCCC#32))

/-- The weighted distance of the centres. -/
def ctrC (p t : Fin 53 → ℝ) : EReal := root 0x3F000000#32 ((p 0 - t 0) ^ 2 + (p 1 - t 1) ^ 2)

/-- The weighted distance of the visibilities. -/
def visC (p t : Fin 53 → ℝ) : EReal := root 0x3E4CCCCD#32 (∑ j : Fin 17, (vis p j - vis t j) ^ 2)

/-- The matching cost. -/
def cost (l : Fin 2 → ℝ) (p t : Fin 53 → ℝ) (s : ℝ) : EReal :=
  (cls l s : EReal) + ((∑ j : Fin 17, joint p t j : ℝ) : EReal) + ctrC p t + visC p t

/-- One half, four, two: the constants both programs print. -/
theorem half_f32 : Ideal.ofBits .f32 0x3F000000#32 = ((1 / 2 : ℝ) : EReal) := by
  simp [Ideal.ofBits, Ideal.ieee, -EReal.coe_mul]; norm_num
/-- The constant four. -/
theorem four_f32 : Ideal.ofBits .f32 0x40800000#32 = ((4 : ℝ) : EReal) := by
  simp [Ideal.ofBits, Ideal.ieee, -EReal.coe_mul]; norm_num
/-- The constant two. -/
theorem two_f32 : Ideal.ofBits .f32 0x40000000#32 = ((2 : ℝ) : EReal) := by
  simp [Ideal.ofBits, Ideal.ieee, -EReal.coe_mul]; norm_num

/-- The absolute value of a real, as the exact instance spells it. -/
theorem abs_coe (a : ℝ) : max (a : EReal) (-(a : EReal)) = ((|a| : ℝ) : EReal) := by
  rw [← EReal.coe_neg, abs_eq_max_neg]; exact (EReal.coe_strictMono.monotone.map_max).symm

/-- The larger of two reals. -/
theorem max_coe (a b : ℝ) : max (a : EReal) (b : EReal) = ((max a b : ℝ) : EReal) :=
  (EReal.coe_strictMono.monotone.map_max).symm

/-- A quotient of reals by a real that is not zero. -/
theorem div_coe (a b : ℝ) (h : b ≠ 0) : Ideal.div (a : EReal) (b : EReal) = ((a / b : ℝ) : EReal) := by
  rw [Ideal.div_coe h, ← EReal.coe_mul]; congr 1; ring

/-- A finite sum of reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The two exponentials' sum is not zero. -/
theorem den_ne (a b : ℝ) : Real.exp a + Real.exp b ≠ 0 := (add_pos (Real.exp_pos _) (Real.exp_pos _)).ne'

/-- The seventeen joints added by fours, with the two distances between the groups, are their sum with the distances after it. -/
theorem regroup (f : Fin 17 → EReal) (c x v : EReal) :
    c + (f 0 + f 1 + f 2 + f 3) + x + (f 4 + f 5 + f 6 + f 7) + v + (f 8 + f 9 + f 10 + f 11) + (f 12 + f 13 + f 14 + f 15) + f 16
      = c + ∑ j : Fin 17, f j + x + v := by
  simp only [Fin.sum_univ_castSucc, Fin.sum_univ_zero, zero_add]
  simp only [Fin.reduceCastSucc, Fin.reduceLast, Fin.isValue]
  abel

end Cert.Spec
-- ==== Proof.BlockAt.lean ====
/- What one grid point stores, read at one query and one target over exact arithmetic: on real inputs it is the cost. -/
module

public import proofs.«01_k».proof.Proof.Block
public import proofs.«01_k».proof.Proof.Spec
public import Idealize.ShloMosaic.Lib.Pointwise

@[expose] public section

set_option maxRecDepth 16384

noncomputable section

namespace Cert.KernelIdeal.Block

open Idealize.ShloMosaic Idealize.SL.Sem Cert.KernelIdeal.Gen

/-- A stack of slabs at row `q`: the slab at row `q` modulo sixteen. -/
theorem tile_at (v : Vec Ideal S1x16x512 .bf16) (q t : Fin 512) :
    tile v (ix2 q t) = v (ix3 0 ⟨q.val % 16, Nat.mod_lt _ (by decide)⟩ t) := by
  unfold tile
  rw [concatenate_replicate_apply (t := S512x512) (s₁ := S16x512) (0 : Fin 2) 32 _ _ rfl (ix2 q t)
    (ix2 ⟨q.val % 16, Nat.mod_lt _ (by decide)⟩ t) rfl (by intro b hb; fin_cases b; · exact absurd rfl hb
                                                           · rfl)]
  pointwise

/-- What the loads of a block hold, over real predictions `L`, `P`, targets `T` and the class mask `s`. -/
structure Reals (v5 : Vec Ideal S1x512x2 .f32) (v7 : Vec Ideal S1x512x53 .f32) (v14 : Vec Ideal S2x512 .f32)
    (v15 : Vec Ideal S17x512 .bf16) (v37 : Vec Ideal S1x512 .f32) (Z : Fin 34 → Vec Ideal S1x16x512 .bf16)
    (A B : Fin 17 → Vec Ideal S1x16x512 .bf16) (L : Fin 512 → Fin 2 → ℝ) (P T : Fin 512 → Fin 53 → ℝ) (s : Fin 512 → ℝ) : Prop where
  logits : ∀ q c, v5 (ix3 0 q c) = (L q c : EReal)
  preds : ∀ q c, v7 (ix3 0 q c) = (P q c : EReal)
  ctr : ∀ (i : Fin 2) t, v14 (ix2 i t) = (T t ⟨i.val, by omega⟩ : EReal)
  vis : ∀ j t, v15 (ix2 j t) = (Spec.vis (T t) j : EReal)
  mask : ∀ t, v37 (ix2 0 t) = (s t : EReal)
  offs : ∀ d r t, Z d (ix3 0 r t) = (T t ⟨2 + d.val, by omega⟩ : EReal)
  half : ∀ j r t, A j (ix3 0 r t) = ((1 / 2 * |Spec.vis (T t) j| : ℝ) : EReal)
  four : ∀ j r t, B j (ix3 0 r t) = ((4 * |Spec.vis (T t) j| : ℝ) : EReal)

section

variable {v5 : Vec Ideal S1x512x2 .f32} {v7 : Vec Ideal S1x512x53 .f32} {v14 : Vec Ideal S2x512 .f32}
  {v15 : Vec Ideal S17x512 .bf16} {v37 : Vec Ideal S1x512 .f32} {Z : Fin 34 → Vec Ideal S1x16x512 .bf16}
  {A B : Fin 17 → Vec Ideal S1x16x512 .bf16} {L : Fin 512 → Fin 2 → ℝ} {P T : Fin 512 → Fin 53 → ℝ} {s : Fin 512 → ℝ}
  (h : Reals v5 v7 v14 v15 v37 Z A B L P T s)

include h

/-- An offset difference at `(q, t)`. -/
theorem off_at (d : Fin 34) (q t : Fin 512) : off (k0_pay82 v7) Z d (ix2 q t) = (Spec.diff (P q) (T t) d : EReal) := by
  have e : off (k0_pay82 v7) Z d (ix2 q t) = v7 (ix3 0 q ⟨2 + d.val, by omega⟩) - Z d (ix3 0 ⟨q.val % 16, Nat.mod_lt _ (by decide)⟩ t) := by
    unfold off
    pointwise [tile_at, k0_pay82, k0_pay80]
  rw [e, h.preds, h.offs, ← EReal.coe_sub]; rfl

/-- The centres' difference along `x` at `(q, t)`. -/
theorem dcx_at (q t : Fin 512) : k0_pay96 (k0_pay81 v7) v14 (ix2 q t) = ((P q 0 - T t 0 : ℝ) : EReal) := by
  have e : k0_pay96 (k0_pay81 v7) v14 (ix2 q t) = v7 (ix3 0 q 0) - v14 (ix2 0 t) := by
    pointwise [k0_pay96, k0_pay81, k0_pay80]
  rw [e, h.preds, h.ctr, ← EReal.coe_sub]; rfl

/-- The centres' difference along `y` at `(q, t)`. -/
theorem dcy_at (q t : Fin 512) : k0_pay97 (k0_pay81 v7) v14 (ix2 q t) = ((P q 1 - T t 1 : ℝ) : EReal) := by
  have e : k0_pay97 (k0_pay81 v7) v14 (ix2 q t) = v7 (ix3 0 q 1) - v14 (ix2 1 t) := by
    pointwise [k0_pay97, k0_pay81, k0_pay80]
  rw [e, h.preds, h.ctr, ← EReal.coe_sub]; rfl

/-- A joint's term at `(q, t)`. -/
theorem joint_at (j : Fin 17) (q t : Fin 512) : joints v7 v14 Z A B j (ix2 q t) = (Spec.joint (P q) (T t) j : EReal) := by
  have ex : k0_pay98 (k0_pay81 v7) v14 (ix2 q t) = ((P q 0 - T t 0 : ℝ) : EReal) := (dcx_at h q t :)
  have ey : k0_pay99 (k0_pay81 v7) v14 (ix2 q t) = ((P q 1 - T t 1 : ℝ) : EReal) := (dcy_at h q t :)
  unfold joints joint
  pointwise [tile_at, off_at h, h.half, h.four, ex, ey]
  simp only [Spec.abs_coe, ← EReal.coe_add, ← EReal.coe_mul]
  rfl

/-- Four joints' terms at `(q, t)`. -/
theorem four_at (a b c d : Fin 17) (q t : Fin 512) : Block.four (joints v7 v14 Z A B) a b c d (ix2 q t)
    = ((Spec.joint (P q) (T t) a + Spec.joint (P q) (T t) b + Spec.joint (P q) (T t) c + Spec.joint (P q) (T t) d : ℝ) : EReal) := by
  unfold Block.four
  pointwise [joint_at h]
  simp only [EReal.coe_add]

/-- The class cost at `(q, t)`. -/
theorem cls_at (q t : Fin 512) : clsCost v5 v37 (ix2 q t) = (Spec.cls (L q) (s t) : EReal) := by
  pointwise [clsCost, k0_pay95, k0_pay94, k0_pay93, k0_pay92, k0_pay91, k0_pay90, k0_pay89, k0_pay88, k0_pay87, k0_pay79]
  simp only [h.logits, h.mask, Spec.max_coe, ← EReal.coe_sub, Ideal.exp_coe, ← EReal.coe_add, ← EReal.coe_one,
    Spec.div_coe _ _ (Spec.den_ne _ _), ← EReal.coe_mul, ← EReal.coe_zero]
  refine congrArg _ ?_
  unfold Spec.cls Spec.prob
  ring

/-- The centres' weighted distance at `(q, t)`. -/
theorem ctr_at (q t : Fin 512) : ctrCost (k0_pay96 (k0_pay81 v7) v14) (k0_pay97 (k0_pay81 v7) v14) (ix2 q t) = Spec.ctrC (P q) (T t) := by
  unfold ctrCost
  pointwise [dcx_at h, dcy_at h]
  simp only [← EReal.coe_mul, ← EReal.coe_add]
  unfold Spec.ctrC Spec.root
  simp only [pow_two]

/-- The visibilities' weighted distance at `(q, t)`: the square expanded is the sum of the squares. -/
theorem vis_at (q t : Fin 512) : visCost (k0_pay84 v7 v15) (k0_pay85 v7) (k0_pay86 v15) (ix2 q t) = Spec.visC (P q) (T t) := by
  have e1 : k0_pay84 v7 v15 (ix2 q t) = ((∑ j : Fin 17, Spec.vis (P q) j * Spec.vis (T t) j : ℝ) : EReal) := by
    rw [← Spec.sum_coe]
    pointwise [k0_pay84, k0_pay83, k0_pay80, h.preds, h.vis]
    rfl
  have e2 : k0_pay85 v7 (ix2 q 0) = ((∑ j : Fin 17, Spec.vis (P q) j * Spec.vis (P q) j : ℝ) : EReal) := by
    rw [← Spec.sum_coe]
    pointwise [k0_pay85, k0_pay83, k0_pay80, h.preds]
    rfl
  have e3 : k0_pay86 v15 (ix2 0 t) = ((∑ j : Fin 17, Spec.vis (T t) j * Spec.vis (T t) j : ℝ) : EReal) := by
    rw [← Spec.sum_coe]
    pointwise [k0_pay86, h.vis]
    rfl
  unfold visCost
  pointwise [e1, e2, e3, Spec.two_f32]
  simp only [← EReal.coe_mul, ← EReal.coe_add, ← EReal.coe_sub]
  unfold Spec.visC Spec.root
  congr 4
  rw [Finset.mul_sum, ← Finset.sum_add_distrib, ← Finset.sum_sub_distrib]
  exact Finset.sum_congr rfl fun j _ => by ring

/-- THE BLOCK: what a point stores at `(q, t)` is the cost of query `q` and target `t`. -/
theorem printed_at (q t : Fin 512) : printed v5 v7 v14 v15 v37 Z A B (ix2 q t) = Spec.cost (L q) (P q) (T t) (s t) := by
  rw [printed_eq]
  pointwise [four_at h, cls_at h, ctr_at h, vis_at h, joint_at h]
  unfold Spec.cost
  rw [← Spec.sum_coe]
  simp only [EReal.coe_add]
  exact Spec.regroup (fun j => (Spec.joint (P q) (T t) j : EReal)) _ _ _

end

end Cert.KernelIdeal.Block
-- ==== Proof.Array.lean ====
/- What the kernel's result array holds: at every image, query and target, the cost. -/
module

public import proofs.«01_k».proof.Proof.Scratch
public import proofs.«01_k».proof.Proof.BlockAt
public import Idealize.ShloMosaic.Lib.StableHlo.ReadAt
public import Idealize.ShloMosaic.Lib.Pipeline.ValueKit

@[expose] public section

set_option maxRecDepth 16384

noncomputable section

namespace Cert.KernelIdeal.Block

open Idealize.ShloMosaic Idealize.ShloMosaic.TcCoe Idealize.SL.Sem Cert.KernelIdeal.Gen

/-- The rows stacked for the offsets are the targets' coordinates. -/
theorem rows34_at (x2 : Vec Ideal S53x512 .f32) (d : Fin 34) (r : Fin 16) (t : Fin 512) :
    rows34 (k0_pay4 x2) d (slices_row34 d) (ix3 0 r t) = x2 (ix2 ⟨2 + d.val, by omega⟩ t) := by
  unfold rows34
  pointwise [k0_pay4, k0_pay2]

/-- The rows stacked under the offset weight are half the targets' visibilities, made positive. -/
theorem halfRow_at (x2 : Vec Ideal S53x512 .f32) (j : Fin 17) (r : Fin 16) (t : Fin 512) (v : ℝ)
    (hv : x2 (ix2 ⟨36 + j.val, by omega⟩ t) = (v : EReal)) :
    rows17 (k0_pay7 x2) j (slices_row17 j) (ix3 0 r t) = ((1 / 2 * |v| : ℝ) : EReal) := by
  have e : (rows17 (k0_pay7 x2) j (slices_row17 j) (ix3 0 r t) : EReal)
      = Ideal.ofBits .f32 0x3F000000#32 * @FloatOps.absf Ideal _ .f32 (x2 (ix2 ⟨36 + j.val, by omega⟩ t)) := by
    unfold rows17
    pointwise [k0_pay7, k0_pay5, k0_pay2]
  rw [e, hv, Ideal.absf_def, Spec.abs_coe, Spec.half_f32, ← EReal.coe_mul]

/-- The rows stacked under the absolute weight are four times the targets' visibilities, made positive. -/
theorem fourRow_at (x2 : Vec Ideal S53x512 .f32) (j : Fin 17) (r : Fin 16) (t : Fin 512) (v : ℝ)
    (hv : x2 (ix2 ⟨36 + j.val, by omega⟩ t) = (v : EReal)) :
    rows17 (k0_pay8 x2) j (slices_row17 j) (ix3 0 r t) = ((4 * |v| : ℝ) : EReal) := by
  have e : (rows17 (k0_pay8 x2) j (slices_row17 j) (ix3 0 r t) : EReal)
      = Ideal.ofBits .f32 0x40800000#32 * @FloatOps.absf Ideal _ .f32 (x2 (ix2 ⟨36 + j.val, by omega⟩ t)) := by
    unfold rows17
    pointwise [k0_pay8, k0_pay5, k0_pay2]
  rw [e, hv, Ideal.absf_def, Spec.abs_coe, Spec.four_f32, ← EReal.coe_mul]

/-- The class mask: one where the id is zero, else zero. -/
def isZero (w : BitVec 32) : ℝ := if w = 0#32 then 1 else 0

/-- The mask's row holds the class mask. -/
theorem mask_at (x3 : Vec Ideal S1x512 .i32) (t : Fin 512) :
    k0_pay78 (F := Ideal) (k0_pay77 x3) (ix2 0 t) = (isZero (x3 (ix2 0 t)) : EReal) := by
  have e : k0_pay78 (F := Ideal) (k0_pay77 x3) (ix2 0 t)
      = FloatOps.sitofp (F := Ideal) .f32 (BitVec.setWidth 32 (IntOp.cmpi .eq (x3 (ix2 0 t)) 0#32)) := by
    pointwise [k0_pay78, k0_pay77]
  rw [e]
  generalize x3 (ix2 0 t) = w
  unfold isZero
  by_cases h : w = 0#32
  · subst h
    show (((1#32 : BitVec 32).toInt : ℝ) : EReal) = _
    simp
  · have : IntOp.cmpi .eq w 0#32 = 0#1 := by
      show BitVec.ofBool (w == 0#32) = _
      rw [beq_eq_false_iff_ne.mpr h]; rfl
    rw [this, if_neg h]
    show (((0#32 : BitVec 32).toInt : ℝ) : EReal) = _
    simp

variable (m : (ℓ : Loc nD τ sig) → Buf (Elt Ideal) ℓ)

/-- Where the windows' blocks lie: image `t` of the two prediction arrays and of the result, all of the targets and ids. -/
theorem idx_facts : ∀ t : Fin cfg0.N, win0_0.index t = ![t.val, 0, 0] ∧ win0_1.index t = ![t.val, 0, 0]
    ∧ win0_2.index t = ![0, 0] ∧ win0_3.index t = ![0, 0] ∧ win0_4.index t = ![t.val, 0, 0] :=
  (by decide +kernel : ∀ t : Fin grid0.N, _)

/-- The grid point of an image. -/
abbrev pt (b : Fin 16) : Fin cfg0.N := ⟨b.val, lt_of_lt_of_eq b.isLt N_0.symm⟩

/-- The logits' block at image `b` is that image's logits. -/
theorem blk0_at (c : Dev nD) (b : Fin 16) (q : Fin 512) (k : Fin 2) :
    (iblk m c 0 (pt b) : Vec Ideal S1x512x2 .f32) (ix3 0 q k) = (m ((c : Thread nD τ).loc main_arg0) : Vec Ideal S16x512x2 .f32) (ix3 b q k) := by
  blk_ext [iblk, V, idx_facts (pt b)]

/-- The predictions' block at image `b` is that image's predictions. -/
theorem blk1_at (c : Dev nD) (b : Fin 16) (q : Fin 512) (k : Fin 53) :
    (iblk m c 1 (pt b) : Vec Ideal S1x512x53 .f32) (ix3 0 q k) = (m ((c : Thread nD τ).loc main_arg1) : Vec Ideal S16x512x53 .f32) (ix3 b q k) := by
  blk_ext [iblk, V, idx_facts (pt b)]

/-- The targets' block is the targets transposed. -/
theorem blk2_at (c : Dev nD) (k : Fin 53) (t : Fin 512) :
    (iblk m c 2 origin : Vec Ideal S53x512 .f32) (ix2 k t) = (m ((c : Thread nD τ).loc main_arg2) : Vec Ideal S512x53 .f32) (ix2 t k) := by
  have e : (iblk m c 2 origin : Vec Ideal S53x512 .f32) (ix2 k t) = (V m c main_call0_v0 : Vec Ideal S53x512 .f32) (ix2 k t) := by
    blk_ext [iblk, idx_facts origin]
  rw [e]
  unfold V
  after_reads_at

/-- The ids' block is the ids as a row. -/
theorem blk3_at (c : Dev nD) (t : Fin 512) :
    (iblk m c 3 origin : Vec Ideal S1x512 .i32) (ix2 0 t) = (m ((c : Thread nD τ).loc main_arg3) : Vec Ideal S512 .i32) (ix1 t) := by
  have e : (iblk m c 3 origin : Vec Ideal S1x512 .i32) (ix2 0 t) = (V m c main_call0_v1 : Vec Ideal S1x512 .i32) (ix2 0 t) := by
    blk_ext [iblk, idx_facts origin]
  rw [e]
  unfold V
  after_reads_at

/-- Every element of a real array is a real. -/
structure RealArgs (c : Dev nD) (l : Fin 16 → Fin 512 → Fin 2 → ℝ) (p : Fin 16 → Fin 512 → Fin 53 → ℝ) (g : Fin 512 → Fin 53 → ℝ) : Prop where
  logits : ∀ b q k, (m ((c : Thread nD τ).loc main_arg0) : Vec Ideal S16x512x2 .f32) (ix3 b q k) = (l b q k : EReal)
  preds : ∀ b q k, (m ((c : Thread nD τ).loc main_arg1) : Vec Ideal S16x512x53 .f32) (ix3 b q k) = (p b q k : EReal)
  targets : ∀ t k, (m ((c : Thread nD τ).loc main_arg2) : Vec Ideal S512x53 .f32) (ix2 t k) = (g t k : EReal)

variable {m} {c : Dev nD} {l : Fin 16 → Fin 512 → Fin 2 → ℝ} {p : Fin 16 → Fin 512 → Fin 53 → ℝ} {g : Fin 512 → Fin 53 → ℝ}

/-- What a grid point loads is real, on real arguments. -/
theorem loads (h : RealArgs m c l p g) (b : Fin 16) :
    Reals (iblk m c 0 (pt b)) (iblk m c 1 (pt b)) (k0_pay3 (iblk m c 2 origin)) (k0_pay6 (iblk m c 2 origin))
      (k0_pay78 (k0_pay77 (iblk m c 3 origin))) (slab34 (View.canon (pieces34 (k0_pay4 (iblk m c 2 origin)))))
      (slab17 (View.canon (pieces17 (k0_pay7 (iblk m c 2 origin))))) (slab17 (View.canon (pieces17 (k0_pay8 (iblk m c 2 origin)))))
      (l b) (p b) g (fun t => isZero ((m ((c : Thread nD τ).loc main_arg3) : Vec Ideal S512 .i32) (ix1 t))) where
  logits q k := (blk0_at m c b q k).trans (h.logits b q k)
  preds q k := (blk1_at m c b q k).trans (h.preds b q k)
  ctr i t := by
    refine Eq.trans ?_ ((blk2_at m c ⟨i.val, by omega⟩ t).trans (h.targets t _))
    pointwise [k0_pay3, k0_pay2]
  vis j t := by
    refine Eq.trans ?_ ((blk2_at m c ⟨36 + j.val, by omega⟩ t).trans (h.targets t _))
    pointwise [k0_pay6, k0_pay5, k0_pay2]
  mask t := by rw [mask_at, blk3_at]
  offs d r t := by rw [slab34_filled, rows34_at, blk2_at, h.targets]
  half j r t := by rw [slab17_filled]; exact halfRow_at _ j r t _ ((blk2_at m c _ t).trans (h.targets t _))
  four j r t := by rw [slab17_filled]; exact fourRow_at _ j r t _ ((blk2_at m c _ t).trans (h.targets t _))

/-- The block stored at image `b`'s grid point is the cost. -/
theorem block_at (h : RealArgs m c l p g) (b : Fin 16) (q t : Fin 512) :
    (outsAt0 m c b.val (pt b).isLt).1 (ix3 0 q t)
      = Spec.cost (l b q) (p b q) (g t) (isZero ((m ((c : Thread nD τ).loc main_arg3) : Vec Ideal S512 .i32) (ix1 t))) := by
  rw [out_all m c (pt b)]
  unfold stored first
  rw [← printed_at (loads h b) q t]
  pointwise [k0_pay1]

/-- The kernel's result at image `b`, query `q` and target `t` is the cost. -/
theorem result_at (h : RealArgs m c l p g) (b : Fin 16) (q t : Fin 512) :
    (Value.G4 m c : Vec Ideal S16x512x512 .f32) (ix3 b q t)
      = Spec.cost (l b q) (p b q) (g t) (isZero ((m ((c : Thread nD τ).loc main_arg3) : Vec Ideal S512 .i32) (ix1 t))) := by
  have hp : Value.pt4Of (ix3 b q t) = b.val := by
    show 1 * (b.val / 1 - 0) + 1 * (q.val / 512 - 0) + 1 * (t.val / 512 - 0) = b.val
    omega
  have hl : Value.loc4Of (ix3 b q t) = ix3 0 q t := by
    funext a
    apply Fin.ext
    fin_cases a
    · show b.val % 1 = 0; omega
    · show q.val % 512 = q.val; omega
    · show t.val % 512 = t.val; omega
  have hlt : Value.pt4Of (ix3 b q t) < cfg0.N := hp ▸ (pt b).isLt
  unfold Value.G4
  rw [dif_pos hlt, ← Value.outsAt0_sweep m c _ hlt, hl, ← block_at h b q t]
  have key : ∀ n (hn : n < cfg0.N), n = b.val → (outsAt0 m c n hn).1 (ix3 0 q t) = (outsAt0 m c b.val (pt b).isLt).1 (ix3 0 q t) := by
    rintro n hn rfl; rfl
  exact key _ hlt hp

end Cert.KernelIdeal.Block
-- ==== Proof.RefTerm.lean ====
/- The reference's result, its term split into the five costs. -/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Term

open Idealize.ShloMosaic Idealize.ShloMosaic.TcCoe Idealize.SL.Sem Cert.ReferenceIdeal Cert.ReferenceIdeal.Gen

variable {F : FTy → Type} [FloatOps F]

/-- The logits, one row per query. -/
def rows (x0 : FVec F S16x512x2 .f32) : FVec F S8192x2 .f32 := shapeCast S8192x2 x0 shapeCasts_S16x512x2_S8192x2

/-- The exponentials of the logits less their row's largest. -/
def exps (x0 : FVec F S16x512x2 .f32) : FVec F S8192x2 .f32 :=
  Host.exp (subf (rows x0) (broadcastInDim S8192x2 ![0, 1] bcast_S8192x1_S8192x2_0_1 (broadcastInDim S8192x1 ![0] bcast_S8192_S8192x1_0
    (maximumf (broadcastInDim S8192 ![] bcast_S_S8192 (constant S_ .f32 0xFF800000#32))
      (Host.reduce FloatOps.maximumf (rows x0) (constant S_ .f32 0xFF800000#32) reducesTo_S8192x2_S8192_d1 h_S_)))))

/-- The class probabilities. -/
def probs (x0 : FVec F S16x512x2 .f32) : FVec F S8192x2 .f32 :=
  Host.divf (exps x0) (broadcastInDim S8192x2 ![0, 1] bcast_S8192x1_S8192x2_0_1 (broadcastInDim S8192x1 ![0] bcast_S8192_S8192x1_0
    (Host.reduceAdd (exps x0) (constant S_ .f32 0x00000000#32) reducesTo_S8192x2_S8192_d1 h_S_)))

/-- The class ids, those below zero wrapped, as a column. -/
def ids (x3 : IVec S512 32) : IVec S512x1 32 :=
  broadcastInDim S512x1 ![0] bcast_S512_S512x1_0 (select (cmpi .slt x3 (broadcastInDim S512 ![] bcast_S_S512 (constantI S_ 32 0#32)))
    (addi x3 (broadcastInDim S512 ![] bcast_S_S512 (constantI S_ 32 2#32))) x3)

/-- The class cost. -/
def cls (x0 : FVec F S16x512x2 .f32) (x3 : IVec S512 32) : FVec F S8192x512 .f32 :=
  Host.negf (Host.gather gather_S8192x2_S512x1_S8192x512_0_1_n_n_1_1_81921 (probs x0) (ids x3))

/-- The predictions, one row per query. -/
def kps (x1 : FVec F S16x512x53 .f32) : FVec F S8192x53 .f32 := shapeCast S8192x53 x1 shapeCasts_S16x512x53_S8192x53

/-- The targets' visibilities, each twice. -/
def vis2 (x2 : FVec F S512x53 .f32) : FVec F S512x34 .f32 :=
  shapeCast S512x34 (broadcastInDim S512x17x2 ![0, 1] bcast_S512x17_S512x17x2_0_1 (extractStridedSlice S512x17 ![0, 36] x2 slices_S512x53_S512x17_0_36))
    shapeCasts_S512x17x2_S512x34

/-- The offset coordinates of the predictions and of the targets. -/
def zp (x1 : FVec F S16x512x53 .f32) : FVec F S8192x34 .f32 := extractStridedSlice S8192x34 ![0, 2] (kps x1) slices_S8192x53_S8192x34_0_2
/-- The offset coordinates of the targets. -/
def zt (x2 : FVec F S512x53 .f32) : FVec F S512x34 .f32 := extractStridedSlice S512x34 ![0, 2] x2 slices_S512x53_S512x34_0_2

/-- The absolute coordinates of the predictions: the centre, seventeen times, and the offsets. -/
def ap (x1 : FVec F S16x512x53 .f32) : FVec F S8192x34 .f32 :=
  addf (shapeCast S8192x34 (broadcastInDim S1x8192x17x2 ![0, 1, 2, 3] bcast_S1x8192x1x2_S1x8192x17x2_0_1_2_3
    (shapeCast S1x8192x1x2 (extractStridedSlice S8192x2 ![0, 0] (kps x1) slices_S8192x53_S8192x2_0_0) shapeCasts_S8192x2_S1x8192x1x2))
    shapeCasts_S1x8192x17x2_S8192x34) (zp x1)
/-- The absolute coordinates of the targets. -/
def at' (x2 : FVec F S512x53 .f32) : FVec F S512x34 .f32 :=
  addf (shapeCast S512x34 (broadcastInDim S1x512x17x2 ![0, 1, 2, 3] bcast_S1x512x1x2_S1x512x17x2_0_1_2_3
    (shapeCast S1x512x1x2 (extractStridedSlice S512x2 ![0, 0] x2 slices_S512x53_S512x2_0_0) shapeCasts_S512x2_S1x512x1x2))
    shapeCasts_S1x512x17x2_S512x34) (zt x2)

/-- The visibility-masked distance of two arrays of coordinates. -/
def masked (a : FVec F S8192x34 .f32) (b v : FVec F S512x34 .f32) : FVec F S8192x512 .f32 :=
  Host.reduceAdd (Host.absf (subf
    (mulf (broadcastInDim S8192x512x34 ![0, 1, 2] bcast_S8192x1x34_S8192x512x34_0_1_2 (broadcastInDim S8192x1x34 ![0, 2] bcast_S8192x34_S8192x1x34_0_2 a))
      (broadcastInDim S8192x512x34 ![0, 1, 2] bcast_S1x512x34_S8192x512x34_0_1_2 (broadcastInDim S1x512x34 ![1, 2] bcast_S512x34_S1x512x34_1_2 v)))
    (broadcastInDim S8192x512x34 ![0, 1, 2] bcast_S1x512x34_S8192x512x34_0_1_2 (broadcastInDim S1x512x34 ![1, 2] bcast_S512x34_S1x512x34_1_2 (mulf b v)))))
    (constant S_ .f32 0x00000000#32) reducesTo_S8192x512x34_S8192x512_d2 h_S_

/-- The differences of the visibilities. -/
def visDiff (x1 : FVec F S16x512x53 .f32) (x2 : FVec F S512x53 .f32) : FVec F S8192x512x17 .f32 :=
  subf (broadcastInDim S8192x512x17 ![0, 1, 2] bcast_S8192x1x17_S8192x512x17_0_1_2 (broadcastInDim S8192x1x17 ![0, 2] bcast_S8192x17_S8192x1x17_0_2
      (extractStridedSlice S8192x17 ![0, 36] (kps x1) slices_S8192x53_S8192x17_0_36)))
    (broadcastInDim S8192x512x17 ![0, 1, 2] bcast_S1x512x17_S8192x512x17_0_1_2 (broadcastInDim S1x512x17 ![1, 2] bcast_S512x17_S1x512x17_1_2
      (extractStridedSlice S512x17 ![0, 36] x2 slices_S512x53_S512x17_0_36)))

/-- The differences of the centres. -/
def ctrDiff (x1 : FVec F S16x512x53 .f32) (x2 : FVec F S512x53 .f32) : FVec F S8192x512x2 .f32 :=
  subf (broadcastInDim S8192x512x2 ![0, 1, 2] bcast_S8192x1x2_S8192x512x2_0_1_2 (broadcastInDim S8192x1x2 ![0, 2] bcast_S8192x2_S8192x1x2_0_2
      (extractStridedSlice S8192x2 ![0, 0] (kps x1) slices_S8192x53_S8192x2_0_0)))
    (broadcastInDim S8192x512x2 ![0, 1, 2] bcast_S1x512x2_S8192x512x2_0_1_2 (broadcastInDim S1x512x2 ![1, 2] bcast_S512x2_S1x512x2_1_2
      (extractStridedSlice S512x2 ![0, 0] x2 slices_S512x53_S512x2_0_0)))

/-- The root of a squared distance, clipped from below. -/
def rootOf (n : FVec F S8192x512 .f32) : FVec F S8192x512 .f32 :=
  Host.sqrt (maximumf n (broadcastInDim S8192x512 ![] bcast_S_S8192x512 (constant S_ .f32 0x2B8CBCCC#32)))

/-- A cost under its weight. -/
def weigh (w : BitVec 32) (n : FVec F S8192x512 .f32) : FVec F S8192x512 .f32 :=
  mulf (broadcastInDim S8192x512 ![] bcast_S_S8192x512 (constant S_ .f32 w)) n

/-- The five weighted costs, added. -/
def total (x0 : FVec F S16x512x2 .f32) (x1 : FVec F S16x512x53 .f32) (x2 : FVec F S512x53 .f32) (x3 : IVec S512 32) : FVec F S8192x512 .f32 :=
  addf (addf (addf (addf (weigh 0x3F800000#32 (cls x0 x3)) (weigh 0x3F000000#32 (masked (zp x1) (zt x2) (vis2 x2))))
    (weigh 0x3E4CCCCD#32 (rootOf (Host.reduceAdd (mulf (visDiff x1 x2) (visDiff x1 x2)) (constant S_ .f32 0x00000000#32) reducesTo_S8192x512x17_S8192x512_d2 h_S_))))
    (weigh 0x3F000000#32 (rootOf (Host.reduceAdd (mulf (ctrDiff x1 x2) (ctrDiff x1 x2)) (constant S_ .f32 0x00000000#32) reducesTo_S8192x512x2_S8192x512_d2 h_S_))))
    (weigh 0x40800000#32 (masked (ap x1) (at' x2) (vis2 x2)))

/-- The reference's result is the total, reshaped to images, queries and targets. -/
theorem result_eq (m : (ℓ : Loc nD τ sig) → Buf (Elt F) ℓ) (c : Dev nD) :
    Value.res_main_v93 m c = shapeCast S16x512x512 (total (m ((c.tc : Thread nD τ).loc main_arg0)) (m ((c.tc : Thread nD τ).loc main_arg1))
      (m ((c.tc : Thread nD τ).loc main_arg2)) (m ((c.tc : Thread nD τ).loc main_arg3))) shapeCasts_S8192x512_S16x512x512 := rfl

end Cert.ReferenceIdeal.Term
-- ==== Proof.RefAt.lean ====
/- The reference's result read at one image, query and target over exact arithmetic: on real inputs it is the cost. -/
module

public import proofs.«01_k».proof.Proof.RefTerm

@[expose] public section

set_option maxRecDepth 16384

noncomputable section

namespace Cert.ReferenceIdeal.Term

open Idealize.ShloMosaic Idealize.ShloMosaic.TcCoe Idealize.SL.Sem Cert.ReferenceIdeal Cert.ReferenceIdeal.Gen

/-- The row of a query. -/
abbrev row (b : Fin 16) (q : Fin 512) : Fin 8192 := ⟨b.val * 512 + q.val, by omega⟩

/-- The reshaped array at an image, query and target is the flat one at the query's row. -/
theorem cast_at (n : FVec Ideal S8192x512 .f32) (b : Fin 16) (q t : Fin 512) :
    shapeCast S16x512x512 n shapeCasts_S8192x512_S16x512x512 (ix3 b q t) = n (ix2 (row b q) t) := by
  pointwise

/-- A query's row splits back into its image and its query. -/
theorem row_split {α : Type} (b : Fin 16) (q : Fin 512) (f : Fin 16 → Fin 512 → α) (h₁ : (b.val * 512 + q.val) / 512 < 16)
    (h₂ : (b.val * 512 + q.val) % 512 < 512) : f ⟨(b.val * 512 + q.val) / 512, h₁⟩ ⟨(b.val * 512 + q.val) % 512, h₂⟩ = f b q := by
  have e₁ : (⟨(b.val * 512 + q.val) / 512, h₁⟩ : Fin 16) = b := Fin.ext (by show (b.val * 512 + q.val) / 512 = b.val; omega)
  have e₂ : (⟨(b.val * 512 + q.val) % 512, h₂⟩ : Fin 512) = q := Fin.ext (by show (b.val * 512 + q.val) % 512 = q.val; omega)
  rw [e₁, e₂]

/-- The flat logits at a query's row. -/
theorem rows_at (x0 : FVec Ideal S16x512x2 .f32) (b : Fin 16) (q : Fin 512) (k : Fin 2) : rows x0 (ix2 (row b q) k) = x0 (ix3 b q k) := by
  unfold rows
  pointwise
  exact row_split b q (fun i j => x0 (ix3 i j k)) _ _

/-- The flat predictions at a query's row. -/
theorem kps_at (x1 : FVec Ideal S16x512x53 .f32) (b : Fin 16) (q : Fin 512) (k : Fin 53) : kps x1 (ix2 (row b q) k) = x1 (ix3 b q k) := by
  unfold kps
  pointwise
  exact row_split b q (fun i j => x1 (ix3 i j k)) _ _

/-- The printed start value of a maximum is the least extended real. -/
theorem neg_inf_f32 : Ideal.ofBits .f32 0xFF800000#32 = (⊥ : EReal) := by
  simp [Ideal.ofBits, Ideal.ieee]

/-- The constant one. -/
theorem one_f32 : Ideal.ofBits .f32 0x3F800000#32 = ((1 : ℝ) : EReal) := by
  simp [Ideal.ofBits, Ideal.ieee, -EReal.coe_mul]; norm_num

/-- The exponential of a logit less its row's largest. -/
theorem exps_at (x0 : FVec Ideal S16x512x2 .f32) (l : Fin 2 → ℝ) (n : Fin 8192) (h : ∀ k, rows x0 (ix2 n k) = (l k : EReal)) (k : Fin 2) :
    exps x0 (ix2 n k) = ((Real.exp (l k - max (l 0) (l 1)) : ℝ) : EReal) := by
  unfold exps
  pointwise
  simp only [h, neg_inf_f32]
  rw [show (Finset.univ : Finset (Fin 2)) = {0, 1} from rfl, Finset.fold_insert (by decide), Finset.fold_singleton]
  rw [max_bot_right, max_bot_left, Spec.max_coe, ← EReal.coe_sub, Ideal.exp_coe]

/-- The probability of a class. -/
theorem probs_at (x0 : FVec Ideal S16x512x2 .f32) (l : Fin 2 → ℝ) (n : Fin 8192) (h : ∀ k, rows x0 (ix2 n k) = (l k : EReal)) (k : Fin 2) :
    probs x0 (ix2 n k) = ((Spec.prob l k : ℝ) : EReal) := by
  unfold probs
  pointwise
  simp only [exps_at x0 l n h]
  rw [Fin.sum_univ_two, ← EReal.coe_add, Spec.div_coe _ _ (Spec.den_ne _ _)]
  rfl

/-- A class id below two is left as it is. -/
theorem ids_at (x3 : IVec S512 32) (t : Fin 512) (h : x3 (ix1 t) = 0#32 ∨ x3 (ix1 t) = 1#32) :
    ids x3 (ix2 t 0) = x3 (ix1 t) := by
  unfold ids
  pointwise
  rcases h with h | h <;> rw [h] <;> rfl

/-- The gathered column: where the id is a class, the probability of that class at the same row. -/
theorem gather_at (x : FVec Ideal S8192x2 .f32) (i : IVec S512x1 32) (n : Fin 8192) (t : Fin 512) (k : Fin 2)
    (h : i (ix2 t 0) = BitVec.ofNat 32 k.val) :
    Host.gather gather_S8192x2_S512x1_S8192x512_0_1_n_n_1_1_81921 x i (ix2 n t) = x (ix2 n k) := by
  unfold Host.gather
  refine congrArg x (funext fun a => Fin.ext ?_)
  show gather_S8192x2_S512x1_S8192x512_0_1_n_n_1_1_81921.start (ix2 n t) i a
    + gather_S8192x2_S512x1_S8192x512_0_1_n_n_1_1_81921.batchCoord (ix2 n t) a
    + gather_S8192x2_S512x1_S8192x512_0_1_n_n_1_1_81921.offCoord (ix2 n t) a = _
  rw [GatherDims.batchCoord_eq_zero _ _ _ List.not_mem_nil]
  match a with
  | ⟨0, _⟩ =>
    have h0 : (⟨0, by decide⟩ : Fin S8192x2.rank) ∉ gather_S8192x2_S512x1_S8192x512_0_1_n_n_1_1_81921.startIndexMap := by decide
    have h1 : (⟨0, by decide⟩ : Fin S8192x2.rank) ∈ gather_S8192x2_S512x1_S8192x512_0_1_n_n_1_1_81921.sKept := by decide
    unfold GatherDims.start GatherDims.offCoord
    rw [dif_neg h0, dif_pos h1]
    show 0 + 0 + n.val = n.val
    omega
  | ⟨1, _⟩ =>
    rw [GatherDims.offCoord_eq_zero _ _ _ (fun h => ((GatherDims.mem_sKept _ _).mp h).1 (List.mem_singleton.mpr rfl))]
    unfold GatherDims.start
    have h1 : (⟨1, by decide⟩ : Fin S8192x2.rank) ∈ gather_S8192x2_S512x1_S8192x512_0_1_n_n_1_1_81921.startIndexMap := by decide
    rw [dif_pos h1]
    have hs : gather_S8192x2_S512x1_S8192x512_0_1_n_n_1_1_81921.siIdx (ix2 n t)
        ⟨List.idxOf (⟨1, by decide⟩ : Fin S8192x2.rank) gather_S8192x2_S512x1_S8192x512_0_1_n_n_1_1_81921.startIndexMap,
          List.idxOf_lt_length_iff.2 h1⟩ = ix2 t 0 := by
      funext b
      refine Fin.ext ?_
      match b with
      | ⟨0, _⟩ => rfl
      | ⟨1, _⟩ => rfl
    rw [hs, h]
    match k with
    | ⟨0, _⟩ => rfl
    | ⟨1, _⟩ => rfl

/-- The class cost, `s` telling the targets of class 0. -/
theorem cls_at (x0 : FVec Ideal S16x512x2 .f32) (x3 : IVec S512 32) (l : Fin 2 → ℝ) (n : Fin 8192) (t : Fin 512)
    (h : ∀ k, rows x0 (ix2 n k) = (l k : EReal)) (hi : x3 (ix1 t) = 0#32 ∨ x3 (ix1 t) = 1#32) :
    cls x0 x3 (ix2 n t) = ((Spec.cls l (if x3 (ix1 t) = 0#32 then 1 else 0) : ℝ) : EReal) := by
  unfold cls
  pointwise
  have hid := ids_at x3 t hi
  rcases hi with hi | hi
  · rw [gather_at _ _ n t 0 (by rw [hid, hi]; rfl), probs_at x0 l n h, if_pos hi, ← EReal.coe_neg]
    congr 1
    unfold Spec.cls
    ring
  · rw [gather_at _ _ n t 1 (by rw [hid, hi]; rfl), probs_at x0 l n h, if_neg (by rw [hi]; decide), ← EReal.coe_neg]
    congr 1
    unfold Spec.cls
    ring

/-- A coordinate's visibility is its joint's. -/
theorem vis2_at (x2 : FVec Ideal S512x53 .f32) (t : Fin 512) (d : Fin 34) :
    vis2 x2 (ix2 t d) = x2 (ix2 t ⟨36 + d.val / 2, by omega⟩) := by
  unfold vis2
  pointwise

/-- The predictions' offset coordinates. -/
theorem zp_at (x1 : FVec Ideal S16x512x53 .f32) (n : Fin 8192) (d : Fin 34) :
    zp x1 (ix2 n d) = kps x1 (ix2 n ⟨2 + d.val, by omega⟩) := by
  unfold zp
  pointwise

/-- The targets' offset coordinates. -/
theorem zt_at (x2 : FVec Ideal S512x53 .f32) (t : Fin 512) (d : Fin 34) :
    zt x2 (ix2 t d) = x2 (ix2 t ⟨2 + d.val, by omega⟩) := by
  unfold zt
  pointwise

/-- The predictions' absolute coordinates: the offset from the centre's coordinate of the same parity. -/
theorem ap_at (x1 : FVec Ideal S16x512x53 .f32) (n : Fin 8192) (d : Fin 34) :
    ap x1 (ix2 n d) = (kps x1 (ix2 n ⟨d.val % 2, by omega⟩) : EReal) + kps x1 (ix2 n ⟨2 + d.val, by omega⟩) := by
  unfold ap zp
  pointwise

/-- The targets' absolute coordinates. -/
theorem at_at (x2 : FVec Ideal S512x53 .f32) (t : Fin 512) (d : Fin 34) :
    at' x2 (ix2 t d) = (x2 (ix2 t ⟨d.val % 2, by omega⟩) : EReal) + x2 (ix2 t ⟨2 + d.val, by omega⟩) := by
  unfold at' zt
  pointwise

/-- The coordinates in pairs: a sum over the thirty-four is one over the seventeen joints. -/
theorem sum_pairs (f : Fin 34 → ℝ) :
    ∑ d : Fin 34, f d = ∑ j : Fin 17, (f ⟨2 * j.val, by omega⟩ + f ⟨2 * j.val + 1, by omega⟩) := by
  rw [← (finProdFinEquiv (m := 17) (n := 2)).sum_comp, Fintype.sum_prod_type]
  refine Finset.sum_congr rfl fun j _ => ?_
  rw [Fin.sum_univ_two]
  congr 2 <;> exact Fin.ext (by simp [finProdFinEquiv]; try omega)

/-- A masked distance of real coordinates: each joint's two distances under its visibility's size. -/
theorem masked_at (a : FVec Ideal S8192x34 .f32) (b v : FVec Ideal S512x34 .f32) (n : Fin 8192) (t : Fin 512) (u w : Fin 34 → ℝ) (z : Fin 17 → ℝ)
    (ha : ∀ d, a (ix2 n d) = (u d : EReal)) (hb : ∀ d, b (ix2 t d) = (w d : EReal))
    (hv : ∀ d : Fin 34, v (ix2 t d) = (z ⟨d.val / 2, by omega⟩ : EReal)) :
    masked a b v (ix2 n t) = ((∑ j : Fin 17, (|u ⟨2 * j.val, by omega⟩ - w ⟨2 * j.val, by omega⟩|
      + |u ⟨2 * j.val + 1, by omega⟩ - w ⟨2 * j.val + 1, by omega⟩|) * |z j| : ℝ) : EReal) := by
  unfold masked
  pointwise
  simp only [ha, hb, hv, ← EReal.coe_mul, ← EReal.coe_sub, Ideal.absf_def, Spec.abs_coe]
  rw [Spec.sum_coe, sum_pairs]
  congr 1
  refine Finset.sum_congr rfl fun j _ => ?_
  rw [← sub_mul, ← sub_mul, abs_mul, abs_mul, add_mul]
  have h0 : (⟨2 * j.val / 2, by omega⟩ : Fin 17) = j := Fin.ext (by simp)
  have h1 : (⟨(2 * j.val + 1) / 2, by omega⟩ : Fin 17) = j := Fin.ext (by simp; omega)
  rw [h0, h1]

/-- The squared distance of the visibilities. -/
theorem vis_at (x1 : FVec Ideal S16x512x53 .f32) (x2 : FVec Ideal S512x53 .f32) (n : Fin 8192) (t : Fin 512) (p g : Fin 53 → ℝ)
    (hp : ∀ k, kps x1 (ix2 n k) = (p k : EReal)) (hg : ∀ k, x2 (ix2 t k) = (g k : EReal)) :
    Host.reduceAdd (mulf (visDiff x1 x2) (visDiff x1 x2)) (constant S_ .f32 0x00000000#32) reducesTo_S8192x512x17_S8192x512_d2 h_S_ (ix2 n t)
      = ((∑ j : Fin 17, (Spec.vis p j - Spec.vis g j) ^ 2 : ℝ) : EReal) := by
  unfold visDiff
  pointwise
  simp only [hp, hg, ← EReal.coe_mul, ← EReal.coe_sub]
  rw [Spec.sum_coe]
  congr 1
  exact Finset.sum_congr rfl fun j _ => (pow_two _).symm

/-- The squared distance of the centres. -/
theorem ctr_at (x1 : FVec Ideal S16x512x53 .f32) (x2 : FVec Ideal S512x53 .f32) (n : Fin 8192) (t : Fin 512) (p g : Fin 53 → ℝ)
    (hp : ∀ k, kps x1 (ix2 n k) = (p k : EReal)) (hg : ∀ k, x2 (ix2 t k) = (g k : EReal)) :
    Host.reduceAdd (mulf (ctrDiff x1 x2) (ctrDiff x1 x2)) (constant S_ .f32 0x00000000#32) reducesTo_S8192x512x2_S8192x512_d2 h_S_ (ix2 n t)
      = (((p 0 - g 0) ^ 2 + (p 1 - g 1) ^ 2 : ℝ) : EReal) := by
  unfold ctrDiff
  pointwise
  simp only [hp, hg, ← EReal.coe_mul, ← EReal.coe_sub]
  rw [Fin.sum_univ_two, ← EReal.coe_add, pow_two, pow_two]
  rfl

/-- A weighted root of a real squared distance. -/
theorem root_at (w : BitVec 32) (a : FVec Ideal S8192x512 .f32) (n : Fin 8192) (t : Fin 512) (r : ℝ) (h : a (ix2 n t) = (r : EReal)) :
    weigh w (rootOf a) (ix2 n t) = Spec.root w r := by
  unfold weigh rootOf
  pointwise
  rw [h]
  rfl

/-- A cost under its weight. -/
theorem weigh_at (w : BitVec 32) (a : FVec Ideal S8192x512 .f32) (n : Fin 8192) (t : Fin 512) :
    weigh w a (ix2 n t) = Ideal.ofBits .f32 w * a (ix2 n t) := by
  unfold weigh
  pointwise

/-- The two masked distances under their weights are what the joints add. -/
theorem joints_eq (p g : Fin 53 → ℝ) :
    (1 / 2 : ℝ) * (∑ j : Fin 17, (|Spec.diff p g ⟨2 * j.val, by omega⟩| + |Spec.diff p g ⟨2 * j.val + 1, by omega⟩|) * |Spec.vis g j|)
      + 4 * (∑ j : Fin 17, (|Spec.diff p g ⟨2 * j.val, by omega⟩ + (p 0 - g 0)| + |Spec.diff p g ⟨2 * j.val + 1, by omega⟩ + (p 1 - g 1)|) * |Spec.vis g j|)
      = ∑ j : Fin 17, Spec.joint p g j := by
  rw [Finset.mul_sum, Finset.mul_sum, ← Finset.sum_add_distrib]
  refine Finset.sum_congr rfl fun j _ => ?_
  unfold Spec.joint
  ring

/-- The reference's result on real inputs is the matching cost. -/
theorem total_at (x0 : FVec Ideal S16x512x2 .f32) (x1 : FVec Ideal S16x512x53 .f32) (x2 : FVec Ideal S512x53 .f32) (x3 : IVec S512 32)
    (b : Fin 16) (q t : Fin 512) (l : Fin 2 → ℝ) (p g : Fin 53 → ℝ)
    (hl : ∀ k, x0 (ix3 b q k) = (l k : EReal)) (hp : ∀ k, x1 (ix3 b q k) = (p k : EReal)) (hg : ∀ k, x2 (ix2 t k) = (g k : EReal))
    (hi : x3 (ix1 t) = 0#32 ∨ x3 (ix1 t) = 1#32) :
    shapeCast S16x512x512 (total x0 x1 x2 x3) shapeCasts_S8192x512_S16x512x512 (ix3 b q t)
      = Spec.cost l p g (if x3 (ix1 t) = 0#32 then 1 else 0) := by
  have hl' : ∀ k, rows x0 (ix2 (row b q) k) = (l k : EReal) := fun k => (rows_at x0 b q k).trans (hl k)
  have hp' : ∀ k, kps x1 (ix2 (row b q) k) = (p k : EReal) := fun k => (kps_at x1 b q k).trans (hp k)
  have hv : ∀ d : Fin 34, vis2 x2 (ix2 t d) = (Spec.vis g ⟨d.val / 2, by omega⟩ : EReal) := fun d => (vis2_at x2 t d).trans (hg _)
  have hz := masked_at (zp x1) (zt x2) (vis2 x2) (row b q) t (fun d => p ⟨2 + d.val, by omega⟩) (fun d => g ⟨2 + d.val, by omega⟩) (Spec.vis g)
    (fun d => (zp_at x1 _ d).trans (hp' _)) (fun d => (zt_at x2 t d).trans (hg _)) hv
  have hA := masked_at (ap x1) (at' x2) (vis2 x2) (row b q) t (fun d => p ⟨d.val % 2, by omega⟩ + p ⟨2 + d.val, by omega⟩)
    (fun d => g ⟨d.val % 2, by omega⟩ + g ⟨2 + d.val, by omega⟩) (Spec.vis g)
    (fun d => by rw [ap_at, hp', hp', ← EReal.coe_add]) (fun d => by rw [at_at, hg, hg, ← EReal.coe_add]) hv
  rw [cast_at]
  unfold total
  pointwise
  rw [root_at _ _ _ _ _ (vis_at x1 x2 _ t p g hp' hg), root_at _ _ _ _ _ (ctr_at x1 x2 _ t p g hp' hg), weigh_at, weigh_at, weigh_at,
    cls_at x0 x3 l _ t hl' hi, hz, hA, one_f32, Spec.half_f32, Spec.four_f32, ← EReal.coe_mul, ← EReal.coe_mul, ← EReal.coe_mul, one_mul]
  have hsum : ∀ j : Fin 17, (|(p ⟨2 * j.val % 2, by omega⟩ + p ⟨2 + 2 * j.val, by omega⟩) - (g ⟨2 * j.val % 2, by omega⟩ + g ⟨2 + 2 * j.val, by omega⟩)|
        + |(p ⟨(2 * j.val + 1) % 2, by omega⟩ + p ⟨2 + (2 * j.val + 1), by omega⟩) - (g ⟨(2 * j.val + 1) % 2, by omega⟩ + g ⟨2 + (2 * j.val + 1), by omega⟩)|)
      = |Spec.diff p g ⟨2 * j.val, by omega⟩ + (p 0 - g 0)| + |Spec.diff p g ⟨2 * j.val + 1, by omega⟩ + (p 1 - g 1)| := fun j => by
    have h0 : (⟨2 * j.val % 2, by omega⟩ : Fin 53) = 0 := Fin.ext (by show 2 * j.val % 2 = 0; omega)
    have h1 : (⟨(2 * j.val + 1) % 2, by omega⟩ : Fin 53) = 1 := Fin.ext (by show (2 * j.val + 1) % 2 = 1; omega)
    rw [h0, h1]
    unfold Spec.diff
    congr 2 <;> ring
  simp only [hsum]
  unfold Spec.cost Spec.ctrC Spec.visC
  rw [← joints_eq, EReal.coe_add]
  unfold Spec.diff
  abel

end Cert.ReferenceIdeal.Term
-- ==== Proof.Pre.lean ====
/- What the precondition says: every float is a real number and every class id is zero or one. -/
module

public import proofs.«01_k».proof.Pre_in_range
public import Idealize.ShloMosaic.PureOps.Ideal
public import Idealize.ShloMosaic.PureOps.Ideal.Laws
public import Idealize.ShloMosaic.Lib.ReduceAll
public import Idealize.ShloMosaic.Lib.Affine
public import Idealize.ShloMosaic.Lib.WordCmp

@[expose] public section

set_option maxRecDepth 16384

noncomputable section

namespace Cert.Pre_in_range

open Idealize.ShloMosaic

/-- The shape relations the precondition states. -/
theorem facts : Facts where
  bcast_S_S16x512x2 := by decide
  reducesTo_S16x512x2_S_d0_1_2 := by decide
  h_S_ := by decide
  bcast_S_S16x512x53 := by decide
  reducesTo_S16x512x53_S_d0_1_2 := by decide
  bcast_S_S512x53 := by decide
  reducesTo_S512x53_S_d0_1 := by decide
  bcast_S_S512 := by decide
  reducesTo_S512_S_d0 := by decide

/-- An array of one element has one index. -/
instance : Subsingleton S_.Idx := ⟨fun _ _ => funext fun a => a.elim0⟩

/-- The constant infinity is the greatest extended real. -/
theorem inf_f32 : Ideal.ofBits .f32 0x7F800000#32 = (⊤ : EReal) := by
  simp [Ideal.ofBits, Ideal.ieee]

/-- A value whose size is below infinity is its own real part. -/
theorem real_of_lt (x : Ideal .f32) (h : FloatOps.cmpf (F := Ideal) .olt (FloatOps.absf x) (FloatOps.ofBits .f32 0x7F800000#32) = 1#1) :
    x = ((EReal.toReal x : ℝ) : EReal) := by
  have h' : max (x : EReal) (-x) < ⊤ := by
    rw [← inf_f32]
    exact of_decide_eq_true ((WordCmp.ofBool_eq_one_iff _).1 h)
  refine (EReal.coe_toReal ?_ ?_).symm
  · rintro rfl
    simp at h'
  · rintro rfl
    simp at h'

/-- A word at least zero and below two, both signed, is zero or one. -/
theorem class_of (w : BitVec 32) (h0 : IntOp.cmpi .sge w 0#32 = 1#1) (h1 : IntOp.cmpi .slt w 2#32 = 1#1) : w = 0#32 ∨ w = 1#32 := by
  rw [IntOp.cmpi_sge, show (0#32 : BitVec 32).toInt = 0 by decide] at h0
  rw [IntOp.cmpi_slt, show (2#32 : BitVec 32).toInt = 2 by decide] at h1
  have : w.toInt = 0 ∨ w.toInt = 1 := by omega
  exact this.imp (fun h => BitVec.eq_of_toInt_eq (h.trans (by decide))) (fun h => BitVec.eq_of_toInt_eq (h.trans (by decide)))

variable [Facts]

/-- Where the precondition holds, every float is its real part and every id is zero or one. -/
theorem real_of_pre (x0 : FVec Ideal S16x512x2 .f32) (x1 : FVec Ideal S16x512x53 .f32) (x2 : FVec Ideal S512x53 .f32) (x3 : IVec S512 32)
    (h : fn (F := Ideal) x0 x1 x2 x3 = fun _ => 1#1) :
    (∀ i, x0 i = ((EReal.toReal (x0 i) : ℝ) : EReal)) ∧ (∀ i, x1 i = ((EReal.toReal (x1 i) : ℝ) : EReal))
      ∧ (∀ i, x2 i = ((EReal.toReal (x2 i) : ℝ) : EReal)) ∧ ∀ i, x3 i = 0#32 ∨ x3 i = 1#32 := by
  have j : S_.Idx := Shape.Idx.first Facts.h_S_
  obtain ⟨h, h3⟩ := IntOp.andi_eq_one.1 (congrFun h j)
  obtain ⟨h, h2⟩ := IntOp.andi_eq_one.1 h
  obtain ⟨h0, h1⟩ := IntOp.andi_eq_one.1 h
  refine ⟨fun i => real_of_lt _ ?_, fun i => real_of_lt _ ?_, fun i => real_of_lt _ ?_, fun i => ?_⟩
  · exact Host.reduce_andi_all _ _ _ _ j h0 i
  · exact Host.reduce_andi_all _ _ _ _ j h1 i
  · exact Host.reduce_andi_all _ _ _ _ j h2 i
  · obtain ⟨ha, hb⟩ := IntOp.andi_eq_one.1 (Host.reduce_andi_all _ _ _ _ j h3 i)
    exact class_of _ ha hb

end Cert.Pre_in_range
-- ==== Proof.Equation.lean ====
/- The equation: where the precondition holds, the reference's result is the kernel's. -/
module

public import proofs.«01_k».proof.Defs
public import proofs.«01_k».proof.Proof.Array
public import proofs.«01_k».proof.Proof.RefAt
public import proofs.«01_k».proof.Proof.Pre

@[expose] public section

set_option maxRecDepth 16384

noncomputable section

namespace Cert.Equation

open Idealize.ShloMosaic Idealize.ShloMosaic.TcCoe Idealize.SL.Sem

/-- Where the precondition holds of the kernel's arguments, the array that the reference computes of the same arguments
    is the array that the kernel leaves. -/
theorem result_eq [Cert.Pre_in_range.Facts]
    (m : (ℓ : Loc Cert.KernelIdeal.nD Cert.KernelIdeal.τ Cert.KernelIdeal.sig) → Buf (Elt Ideal) ℓ) (c : Dev Cert.KernelIdeal.nD)
    (hpre : Cert.Pre_KernelIdeal_in_range m) :
    shapeCast Cert.ReferenceIdeal.S16x512x512 (Cert.ReferenceIdeal.Term.total (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)))
        Cert.ReferenceIdeal.Gen.shapeCasts_S8192x512_S16x512x512
      = Cert.KernelIdeal.Value.G4 m c := by
  obtain ⟨h0, h1, h2, h3⟩ := Cert.Pre_in_range.real_of_pre _ _ _ _ (hpre c)
  refine funext fun i => ?_
  rw [eq_ix3 i]
  refine (Cert.ReferenceIdeal.Term.total_at _ _ _ _ (i 0) (i 1) (i 2) _ _ _ (fun k => h0 (ix3 (i 0) (i 1) k)) (fun k => h1 (ix3 (i 0) (i 1) k))
    (fun k => h2 (ix2 (i 2) k)) (h3 (ix1 (i 2)))).trans ?_
  exact (Cert.KernelIdeal.Block.result_at ⟨fun b q k => h0 (ix3 b q k), fun b q k => h1 (ix3 b q k), fun t k => h2 (ix2 t k)⟩ (i 0) (i 1) (i 2)).symm

end Cert.Equation
-- ==== Proof.lean ====
/- The proof of the claim: the frames by the programs' runs, the equation of the two results by `Equation.result_eq`. -/
module

public import proofs.«01_k».proof.Defs
public import proofs.«01_k».proof.Proof.Equation
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments and every semaphore as they were. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On equal arguments in range, the kernel and the reference end with equal result arrays. -/
theorem algebraic [Cert.Pre_in_range.Facts] : algebraic_KernelIdeal_ReferenceIdeal_pre_in_range := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Term.result_eq]
  obtain ⟨e0, e1, e2, e3⟩ := hagree c
  rw [e0, e1, e2, e3]
  exact Cert.Equation.result_eq m c hpre

/-- Everything claimed of the kernel and the reference. -/
theorem claim : Cert.Claim :=
  ⟨Cert.Kernel.Gen.facts, Cert.KernelIdeal.Gen.facts, Cert.ReferenceIdeal.Gen.facts, Cert.Pre_in_range.facts,
    fun m ρ _ => Cert.Kernel.Gen.frame m ρ,
    fun m ρ _ => Cert.KernelIdeal.Gen.frame m ρ,
    fun m ρ _ => Cert.KernelIdeal.Gen.frame m ρ,
    quiescent_ReferenceIdeal,
    fun m ρ _ => quiescent_ReferenceIdeal m ρ trivial,
    (trivial : preserves_Kernel_KernelIdeal),
    @algebraic Cert.Pre_in_range.facts⟩

end Cert.Proof

end
